-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "over127" .f32 0x3C010204#32 ((127⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S3x512x1024 : Shape := ⟨3, ![3, 512, 1024]⟩
abbrev S3x512x1 : Shape := ⟨3, ![3, 512, 1]⟩
abbrev S3 : Shape := ⟨1, ![3]⟩
abbrev S2048x16 : Shape := ⟨2, ![2048, 16]⟩
abbrev S2048 : Shape := ⟨1, ![2048]⟩
abbrev S1x512x1024 : Shape := ⟨3, ![1, 512, 1024]⟩
abbrev S_ : Shape := ⟨0, ![]⟩
abbrev S512x512 : Shape := ⟨2, ![512, 512]⟩
abbrev S512x1 : Shape := ⟨2, ![512, 1]⟩
abbrev S512x2048 : Shape := ⟨2, ![512, 2048]⟩
abbrev S512 : Shape := ⟨1, ![512]⟩
abbrev S1x512x1 : Shape := ⟨3, ![1, 512, 1]⟩
abbrev S1 : Shape := ⟨1, ![1]⟩

abbrev nBuf : Space → Nat
  | .hbm => 6
  | .vmem => 12
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S512x1024, .f32⟩
  | .local _ .vmem, ⟨0, _⟩ => ⟨S2048x512, .bf16⟩
  | .local _ .vmem, ⟨1, _⟩ => ⟨S512x16, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S512x1024, .f32⟩
  | .local _ .vmem, ⟨6, _⟩ => ⟨S2048x1, .f32⟩
  | .local _ .vmem, ⟨7, _⟩ => ⟨S2048x1024, .bf16⟩
  | .local _ .vmem, ⟨8, _⟩ => ⟨S3x512x1024, .i8⟩
  | .local _ .vmem, ⟨9, _⟩ => ⟨S3x512x1024, .i8⟩
  | .local _ .vmem, ⟨10, _⟩ => ⟨S3x512x1, .f32⟩
  | .local _ .vmem, ⟨11, _⟩ => ⟨S3x512x1, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v58 : BitVec 32 := Scalar.addi v2 c1_i32_27
  let c4_i32_28 : BitVec 32 := 4#32
  let v59 : BitVec 32 := Scalar.remsi v58 c4_i32_28
  let c1_i32_30 : BitVec 32 := 1#32
  let v60 : BitVec 32 := Scalar.muli v59 c1_i32_30
  let v61 : BitVec 32 := Scalar.addi c0_i32 v60
  v61.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v62 : BitVec 32 := Scalar.addi v2 c2_i32
  let c4_i32_31 : BitVec 32 := 4#32
  let v63 : BitVec 32 := Scalar.remsi v62 c4_i32_31
  let c1_i32_33 : BitVec 32 := 1#32
  let v64 : BitVec 32 := Scalar.muli v63 c1_i32_33
  let v65 : BitVec 32 := Scalar.addi c0_i32_34 v64
  v65.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v66 : BitVec 32 := Scalar.addi v2 c3_i32
  let c4_i32_35 : BitVec 32 := 4#32
  let v67 : BitVec 32 := Scalar.remsi v66 c4_i32_35
  let c1_i32_37 : BitVec 32 := 1#32
  let v68 : BitVec 32 := Scalar.muli v67 c1_i32_37
  let v69 : BitVec 32 := Scalar.addi c0_i32_38 v68
  v69.toNat
def k0_off1 (d0 : Dev nD) (c1_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.addi v2 c1_i32_40
  let c4_i32_41 : BitVec 32 := 4#32
  let v71 : BitVec 32 := Scalar.remsi v70 c4_i32_41
  let c512_i32_42 : BitVec 32 := 512#32
  let v73 : BitVec 32 := Scalar.muli v71 c512_i32_42
  let v74 : Index := Scalar.indexCast v73
  let c0_43 : Index := 0#32
  ![v74.toNat, 0]
def k0_off2 (d0 : Dev nD) (c1_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.addi v2 c1_i32_40
  let c4_i32_41 : BitVec 32 := 4#32
  let v71 : BitVec 32 := Scalar.remsi v70 c4_i32_41
  let c512_i32_42 : BitVec 32 := 512#32
  let v73 : BitVec 32 := Scalar.muli v71 c512_i32_42
  let v77 : Index := Scalar.indexCast v73
  let c0_44 : Index := 0#32
  ![v77.toNat, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v70 : BitVec 32 := Scalar.addi v2 c1_i32_40
  let c4_i32_41 : BitVec 32 := 4#32
  let v71 : BitVec 32 := Scalar.remsi v70 c4_i32_41
  let c1_i32_71 : BitVec 32 := 1#32
  let v133 : BitVec 32 := Scalar.muli v71 c1_i32_71
  let v134 : BitVec 32 := Scalar.addi c0_i32_72 v133
  v134.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v70 : BitVec 32 := Scalar.addi v2 c1_i32_40
  let c4_i32_41 : BitVec 32 := 4#32
  let v71 : BitVec 32 := Scalar.remsi v70 c4_i32_41
  let c1_i32_81 : BitVec 32 := 1#32
  let v143 : BitVec 32 := Scalar.muli v71 c1_i32_81
  let v144 : BitVec 32 := Scalar.addi c0_i32_82 v143
  v144.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v153 : BitVec 32 := Scalar.addi v2 c2_i32_87
  let c4_i32_88 : BitVec 32 := 4#32
  let v154 : BitVec 32 := Scalar.remsi v153 c4_i32_88
  let c1_i32_119 : BitVec 32 := 1#32
  let v216 : BitVec 32 := Scalar.muli v154 c1_i32_119
  let v217 : BitVec 32 := Scalar.addi c0_i32_120 v216
  v217.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v153 : BitVec 32 := Scalar.addi v2 c2_i32_87
  let c4_i32_88 : BitVec 32 := 4#32
  let v154 : BitVec 32 := Scalar.remsi v153 c4_i32_88
  let c1_i32_129 : BitVec 32 := 1#32
  let v226 : BitVec 32 := Scalar.muli v154 c1_i32_129
  let v227 : BitVec 32 := Scalar.addi c0_i32_130 v226
  v227.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v236 : BitVec 32 := Scalar.addi v2 c3_i32_135
  let c4_i32_136 : BitVec 32 := 4#32
  let v237 : BitVec 32 := Scalar.remsi v236 c4_i32_136
  let c1_i32_167 : BitVec 32 := 1#32
  let v299 : BitVec 32 := Scalar.muli v237 c1_i32_167
  let v300 : BitVec 32 := Scalar.addi c0_i32_168 v299
  v300.toNat
def k0_dev9 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v236 : BitVec 32 := Scalar.addi v2 c3_i32_135
  let c4_i32_136 : BitVec 32 := 4#32
  let v237 : BitVec 32 := Scalar.remsi v236 c4_i32_136
  let c1_i32_177 : BitVec 32 := 1#32
  let v309 : BitVec 32 := Scalar.muli v237 c1_i32_177
  let v310 : BitVec 32 := Scalar.addi c0_i32_178 v309
  v310.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_183 : BitVec 32 := 512#32
  let v319 : BitVec 32 := Scalar.muli v2 c512_i32_183
  let v320 : Index := Scalar.indexCast v319
  let c0_184 : Index := 0#32
  ![v320.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_183 : BitVec 32 := 512#32
  let v319 : BitVec 32 := Scalar.muli v2 c512_i32_183
  let v323 : Index := Scalar.indexCast v319
  let c0_185 : Index := 0#32
  ![v323.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "over127" => some ((127⁻¹ : ℝ) : EReal)
  | _ => none
-- ==== ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S512x1024 : Shape := ⟨2, ![512, 1024]⟩
abbrev S2048x16 : Shape := ⟨2, ![2048, 16]⟩
abbrev S_ : Shape := ⟨0, ![]⟩
abbrev S2048 : Shape := ⟨1, ![2048]⟩
abbrev S2048x16x1024 : Shape := ⟨3, ![2048, 16, 1024]⟩
abbrev S2048x16x1 : Shape := ⟨3, ![2048, 16, 1]⟩
abbrev S2048x1024 : Shape := ⟨2, ![2048, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S16x512x1024, .bf16⟩
  | .hbm, ⟨4, _⟩ => ⟨S512x1024, .bf16⟩
  | .hbm, ⟨5, _⟩ => ⟨S2048x512, .f32⟩
  | .hbm, ⟨6, _⟩ => ⟨S512x16, .f32⟩
  | .hbm, ⟨7, _⟩ => ⟨S16x512x1024, .f32⟩
  | .hbm, ⟨8, _⟩ => ⟨S512x1024, .f32⟩
  | .hbm, ⟨9, _⟩ => ⟨S2048x16, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x16, .f32⟩
  | .hbm, ⟨20, _⟩ => ⟨S2048x16, .f32⟩
  | .hbm, ⟨21, _⟩ => ⟨S2048x16, .i32⟩
  | .hbm, ⟨22, _⟩ => ⟨S2048x16, .i32⟩
  | .hbm, ⟨23, _⟩ => ⟨S2048x16, .i1⟩
  | .hbm, ⟨24, _⟩ => ⟨S_, .f32⟩
  | .hbm, ⟨25, _⟩ => ⟨S_, .f32⟩
  | .hbm, ⟨26, _⟩ => ⟨S2048x16, .f32⟩
  | .hbm, ⟨27, _⟩ => ⟨S2048x16, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S2048x16x1024, .f32⟩
  | .hbm, ⟨32, _⟩ => ⟨S2048x16x1, .i1⟩
  | .hbm, ⟨33, _⟩ => ⟨S_, .f32⟩
  | .hbm, ⟨34, _⟩ => ⟨S_, .f32⟩
  | .hbm, ⟨35, _⟩ => ⟨S2048x16x1024, .i1⟩
  | .hbm, ⟨36, _⟩ => ⟨S2048x16x1024, .f32⟩
  | .hbm, ⟨37, _⟩ => ⟨S2048x16x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .i32⟩
  | .hbm, ⟨54, _⟩ => ⟨S2048x1024, .i8⟩
  | .hbm, ⟨55, _⟩ => ⟨S2048x1024, .i32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .i32⟩
  | .hbm, ⟨64, _⟩ => ⟨S_, .i32⟩
  | .hbm, ⟨65, _⟩ => ⟨S2048x1, .i32⟩
  | .hbm, ⟨66, _⟩ => ⟨S2048x1, .i32⟩
  | .hbm, ⟨67, _⟩ => ⟨S_, .i32⟩
  | .hbm, ⟨68, _⟩ => ⟨S2048x1, .i32⟩
  | .hbm, ⟨69, _⟩ => ⟨S2048x1, .i32⟩
  | .hbm, ⟨70, _⟩ => ⟨S2048x1, .i1⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .i1⟩
  | .hbm, ⟨75, _⟩ => ⟨S2048x1024, .f32⟩
  | .hbm, ⟨76, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call3_v0 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Proof.Schedule.lean ====
/- The exchange between the four devices: the buffers' slots, the semaphores, what each device computes, and the
   schedule of payments on the semaphores (who raises which counter, and what ownership goes with it). -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Resource names: the pipeline's own, and one family of payment rounds whose duties are numbered below three. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state a run starts from: memory `m`, all counters zero. -/
def s₀ : MemSt nD τ sig (Elt F) := ⟨m, fun _ => 0, ρ⟩

/-! ## Devices -/

set_option backward.proofsInPublic true in
/-- The device `t` places after `c`. -/
def pl (t : ℕ) (c : Dev nD) : Dev nD := ⟨(c.val + t) % 4, Nat.mod_lt _ (by decide)⟩

theorem pl_pl (a b : ℕ) (h : (a + b) % 4 = 0) (c : Dev nD) : pl a (pl b c) = c := by
  apply Fin.ext
  have hc : c.val < 4 := c.isLt
  simp only [pl]
  omega

theorem dev1_eq (c : Dev nD) : (⟨k0_dev1 c, k0_dev1_lt c⟩ : Dev nD) = pl 1 c := Fin.ext (k0_dev1_eq c)
theorem dev2_eq (c : Dev nD) : (⟨k0_dev2 c, k0_dev2_lt c⟩ : Dev nD) = pl 2 c := Fin.ext (k0_dev2_eq c)
theorem dev3_eq (c : Dev nD) : (⟨k0_dev3 c, k0_dev3_lt c⟩ : Dev nD) = pl 3 c := Fin.ext (k0_dev3_eq c)
theorem dev4_eq (c : Dev nD) : (⟨k0_dev4 c, k0_dev4_lt c⟩ : Dev nD) = pl 1 c := Fin.ext (k0_dev4_eq c)
theorem dev5_eq (c : Dev nD) : (⟨k0_dev5 c, k0_dev5_lt c⟩ : Dev nD) = pl 1 c := Fin.ext (k0_dev5_eq c)
theorem dev6_eq (c : Dev nD) : (⟨k0_dev6 c, k0_dev6_lt c⟩ : Dev nD) = pl 2 c := Fin.ext (k0_dev6_eq c)
theorem dev7_eq (c : Dev nD) : (⟨k0_dev7 c, k0_dev7_lt c⟩ : Dev nD) = pl 2 c := Fin.ext (k0_dev7_eq c)
theorem dev8_eq (c : Dev nD) : (⟨k0_dev8 c, k0_dev8_lt c⟩ : Dev nD) = pl 3 c := Fin.ext (k0_dev8_eq c)
theorem dev9_eq (c : Dev nD) : (⟨k0_dev9 c, k0_dev9_lt c⟩ : Dev nD) = pl 3 c := Fin.ext (k0_dev9_eq c)

/-- The device that slot `j` of device `c` is sent to: `j + 1` places after it. -/
abbrev dst (j : Fin 3) (c : Dev nD) : Dev nD := pl (j.val + 1) c
/-- The device that slot `j` of device `c` is received from. -/
abbrev src (j : Fin 3) (c : Dev nD) : Dev nD := pl (3 - j.val) c
theorem src_dst (j : Fin 3) (c : Dev nD) : src j (dst j c) = c := pl_pl _ _ (by have := j.isLt; omega) c
theorem dst_src (j : Fin 3) (c : Dev nD) : dst j (src j c) = c := pl_pl _ _ (by have := j.isLt; omega) c

/-- Devices turned to the receiver of slot `j`. -/
def turn (j : Fin 3) : Dev nD ≃ Dev nD := ⟨dst j, src j, src_dst j, dst_src j⟩

/-! ## The slots -/

theorem inbC (j : Fin 3) : ∀ a, (![j.val, 0, 0] : Fin 3 → ℕ) a + S1x512x1024.size a ≤ S3x512x1024.size a := by
  revert j; decide
theorem inbS (j : Fin 3) : ∀ a, (![j.val, 0, 0] : Fin 3 → ℕ) a + S1x512x1.size a ≤ S3x512x1.size a := by
  revert j; decide

/-- Slot `j` of a buffer of three code blocks, and of three scale columns. -/
abbrev rC (j : Fin 3) : Rect S3x512x1024 := Rect.unit (s := S3x512x1024) ![j.val, 0, 0] S1x512x1024.size (inbC j)
abbrev rS (j : Fin 3) : Rect S3x512x1 := Rect.unit (s := S3x512x1) ![j.val, 0, 0] S1x512x1.size (inbS j)

/-- The codes to send, the codes received, the scales to send, the scales received: slot `j` of each. -/
abbrev cOut (j : Fin 3) : Memref sig .tc .vmem S1x512x1024 .i8 := (Memref.whole cc0_scratch2).slice (rC j) (fun _ => rfl)
abbrev cIn (j : Fin 3) : Memref sig .tc .vmem S1x512x1024 .i8 := (Memref.whole cc0_scratch3).slice (rC j) (fun _ => rfl)
abbrev sOut (j : Fin 3) : Memref sig .tc .vmem S1x512x1 .f32 := (Memref.whole cc0_scratch4).slice (rS j) (fun _ => rfl)
abbrev sIn (j : Fin 3) : Memref sig .tc .vmem S1x512x1 .f32 := (Memref.whole cc0_scratch5).slice (rS j) (fun _ => rfl)

/-- The amounts a transfer of one block of codes, and of one column of scales, raises its semaphores by. -/
abbrev NC : ℕ := ((cIn 0).squeeze S512x1024 squeezes_S1x512x1024_S512x1024).view.dmaCredit
abbrev NS : ℕ := ((sIn 0).squeeze S512x1 squeezes_S1x512x1_S512x1).view.dmaCredit
theorem NC_pos : 0 < NC := View.dmaCredit_pos _ (by decide)
theorem NS_pos : 0 < NS := View.dmaCredit_pos _ (by decide)

/-! ## The semaphores -/

abbrev barS : Sems sig S_ := SemArray.scalar (sig.barrier 0 rfl)

/-- The transfer semaphores, four to a slot: `0` codes sent, `1` codes received, `2` scales sent, `3` scales received. -/
abbrev dsem (j : Fin 3) (k : Fin 4) : DmaSem sig := ⟨6 + 3 * k.val + j.val, by
  show 6 + 3 * k.val + j.val < 18
  have := j.isLt; have := k.isLt; omega⟩

abbrev barCell (c : Dev nD) : GSem nD τ sig := ((c : Thread nD τ), .reg barS.sem)
abbrev dCell (c : Dev nD) (j : Fin 3) (k : Fin 4) : GSem nD τ sig := ((c : Thread nD τ), .dma (dsem j k))

/-- The amount of kind `k`'s transfers. -/
abbrev NK (k : Fin 4) : ℕ := if k.val < 2 then NC else NS
theorem NK_pos (k : Fin 4) : 0 < NK k := by unfold NK; split; exacts [NC_pos, NS_pos]

/-! ## What the devices compute -/

section Contents

variable (c : Dev nD)

/-- A device's staged arguments: the tokens, the router's weights, the routes, its own experts' weights, the shared weights. -/
def xV : Vec F S2048x512 .bf16 := (win0_0.blk (0 : Fin 1)).view.read (Elt F) ((s₀ m ρ).mem ((c : Thread nD τ).loc main_arg0))
def rwV : Vec F S512x16 .bf16 := (win0_1.blk (0 : Fin 1)).view.read (Elt F) ((s₀ m ρ).mem ((c : Thread nD τ).loc main_arg1))
def riV : Vec F S2048x1 .i32 := (win0_2.blk (0 : Fin 1)).view.read (Elt F) ((s₀ m ρ).mem ((c : Thread nD τ).loc main_arg2))
def exV : Vec F S4x512x1024 .bf16 := (win0_3.blk (0 : Fin 1)).view.read (Elt F) ((s₀ m ρ).mem ((c : Thread nD τ).loc main_arg3))
def shV : Vec F S512x1024 .bf16 := (win0_4.blk (0 : Fin 1)).view.read (Elt F) ((s₀ m ρ).mem ((c : Thread nD τ).loc main_arg4))

/-- The number of the device's first expert, as the kernel computes it. -/
abbrev base : BitVec 32 := Scalar.muli (Scalar.remsi (Scalar.divsi (Dev.word c) 1#32) 4#32) 4#32

/-- The weight of each token on its expert where the expert is the device's own, zero elsewhere. -/
def coV : Vec F S2048x1 .f32 := k0_pay1 c (xV m ρ c) (rwV m ρ c) (riV m ρ c)

theorem casts_ew : S4x512x1024.ShapeCasts S2048x1024 := by decide
/-- The device's four experts' weights, one below the other. -/
def ewV : Vec F S2048x1024 .bf16 := shapeCast S2048x1024 (exV m ρ c) casts_ew

/-- The tokens, routes and weights of chunk `j + 1` places further, and of the device's own chunk. -/
abbrev xRows (j : Fin 3) : Vec F S512x512 .bf16 :=
  (Memref.whole cc0_stg0_0).view.readAt (Elt F) (Rect.unit (s := S2048x512) (k0_off1 c (BitVec.ofNat 32 (1 + j.val))) S512x512.size (k0_off1_inb c j)).toLoadRect (xV m ρ c)
abbrev riRows (j : Fin 3) : Vec F S512x1 .i32 :=
  (Memref.whole cc0_stg2_0).view.readAt (Elt F) (Rect.unit (s := S2048x1) (k0_off2 c (BitVec.ofNat 32 (1 + j.val))) S512x1.size (k0_off2_inb c j)).toLoadRect (riV m ρ c)
abbrev coRows (j : Fin 3) : Vec F S512x1 .f32 :=
  (Memref.whole cc0_scratch0).view.readAt (Elt F) (Rect.unit (s := S2048x1) (k0_off2 c (BitVec.ofNat 32 (1 + j.val))) S512x1.size (k0_off2_inb c j)).toLoadRect (coV m ρ c)
abbrev xOwn : Vec F S512x512 .bf16 :=
  (Memref.whole cc0_stg0_0).view.readAt (Elt F) (Rect.unit (s := S2048x512) (k0_off3 c) S512x512.size (k0_off3_inb c)).toLoadRect (xV m ρ c)
abbrev riOwn : Vec F S512x1 .i32 :=
  (Memref.whole cc0_stg2_0).view.readAt (Elt F) (Rect.unit (s := S2048x1) (k0_off4 c) S512x1.size (k0_off4_inb c)).toLoadRect (riV m ρ c)
abbrev coOwn : Vec F S512x1 .f32 :=
  (Memref.whole cc0_scratch0).view.readAt (Elt F) (Rect.unit (s := S2048x1) (k0_off4 c) S512x1.size (k0_off4_inb c)).toLoadRect (coV m ρ c)

/-- The codes and the scales of a chunk, from its tokens, routes and weights. -/
def codesOf (v3 : BitVec 32) (x : Vec F S512x512 .bf16) (r : Vec F S512x1 .i32) (w : Vec F S2048x1024 .bf16) : Vec F S1x512x1024 .i8 :=
  k0_pay30 (k0_pay29 v3 (k0_pay25 x) (k0_pay26 (F := F) r) w)
def scalesOf (v3 : BitVec 32) (x : Vec F S512x512 .bf16) (r : Vec F S512x1 .i32) (w : Vec F S2048x1024 .bf16) (co : Vec F S512x1 .f32) : Vec F S1x512x1 .f32 :=
  k0_pay31 (k0_pay28 v3 (k0_pay25 x) (k0_pay26 (F := F) r) w) co

/-- What device `c` puts in its slot `j`. -/
def codesV (j : Fin 3) : Vec F S1x512x1024 .i8 := codesOf (base c) (xRows m ρ c j) (riRows m ρ c j) (ewV m ρ c)
def scalesV (j : Fin 3) : Vec F S1x512x1 .f32 := scalesOf (base c) (xRows m ρ c j) (riRows m ρ c j) (ewV m ρ c) (coRows m ρ c j)

/-- The device's block of the result. -/
def outV : Vec F S512x1024 .f32 :=
  k0_pay37 (k0_pay36 (k0_pay33 (k0_pay32 (base c) (xOwn m ρ c) (riOwn m ρ c) (ewV m ρ c) (coOwn m ρ c)) (xOwn m ρ c) (shV m ρ c))
      (k0_pay34 (codesV m ρ (src 0 c) 0)) (k0_pay35 (scalesV m ρ (src 0 c) 0)) (codesV m ρ (src 1 c) 1) (scalesV m ρ (src 1 c) 1))
    (codesV m ρ (src 2 c) 2) (scalesV m ρ (src 2 c) 2)

end Contents

/-- The three spellings of a chunk's codes and scales agree. -/
theorem codes_eq0 (v3 : BitVec 32) (x : Vec F S512x512 .bf16) (r : Vec F S512x1 .i32) (w : Vec F S2048x1024 .bf16) :
    k0_pay14 (k0_pay6 x) (k0_pay7 (F := F) r) (k0_pay8 v3 x r) (k0_pay9 v3 x r) (k0_pay10 v3 x r) (k0_pay11 v3) w = codesOf v3 x r w := rfl
theorem scales_eq0 (v3 : BitVec 32) (x : Vec F S512x512 .bf16) (r : Vec F S512x1 .i32) (w : Vec F S2048x1024 .bf16) (co : Vec F S512x1 .f32) :
    k0_pay15 (k0_pay6 x) (k0_pay7 (F := F) r) (k0_pay8 v3 x r) (k0_pay9 v3 x r) (k0_pay10 v3 x r) (k0_pay11 v3) w co = scalesOf v3 x r w co := rfl
theorem codes_eq1 (v3 : BitVec 32) (x : Vec F S512x512 .bf16) (r : Vec F S512x1 .i32) (w : Vec F S2048x1024 .bf16) :
    k0_pay22 v3 (k0_pay16 x) (k0_pay17 (F := F) r) (k0_pay18 v3 x r) (Scalar.ofBits .bf16 0x0000#16) (k0_pay19 (F := F) v3 r) w = codesOf v3 x r w := rfl
theorem scales_eq1 (v3 : BitVec 32) (x : Vec F S512x512 .bf16) (r : Vec F S512x1 .i32) (w : Vec F S2048x1024 .bf16) (co : Vec F S512x1 .f32) :
    k0_pay24 (k0_pay23 v3 (k0_pay16 x) (k0_pay17 (F := F) r) (k0_pay18 v3 x r) (Scalar.ofBits .bf16 0x0000#16) (k0_pay19 (F := F) v3 r) w co) = scalesOf v3 x r w co := rfl

/-! ## Ownership of a slot -/

/-- A block of memory of device `c` whatever it holds. -/
def free {sp : Space} {s : Shape} {e : EltTy} (c : Dev nD) (A : Memref sig .tc sp s e) : sProp 𝕄 :=
  iprop(∃ f, A.view.loc (c : Thread nD τ) ↦[A.view.set]{fullShare} f)

/-- The same, holding `X`. -/
abbrev holds {sp : Space} {s : Shape} {e : EltTy} (c : Dev nD) (A : Memref sig .tc sp s e) (X : s.Idx → Elt F e) : sProp 𝕄 :=
  owns (Ix := Unit) (Name := ℕ) (U := UU) (Lvl := ℕ) (c : Thread nD τ) A fullShare X

instance free_storable {sp : Space} {s : Shape} {e : EltTy} (c : Dev nD) (A : Memref sig .tc sp s e) :
    BI.Storable (upEmb : UEmb _ 𝕄) (free (F := F) c A) := by unfold free; infer_instance

/-! ## The schedule -/

/-- What device `i`'s unit on `d`'s barrier hands over: the slots of `i` that `d` sends into. -/
def readyPay (d : Dev nD) (j : Fin 3) : sProp 𝕄 := iprop(free (F := F) (dst j d) (cIn j) ∗ free (F := F) (dst j d) (sIn j))

/-- What the transfers' completions hand over: to the sender its source slot, to the receiver its slot with the block. -/
def xferPay (c : Dev nD) (j : Fin 3) (k : Fin 4) : sProp 𝕄 :=
  if k = 0 then free (F := F) c (cOut j)
  else if k = 1 then holds c (cIn j) (codesV m ρ (src j c) j)
  else if k = 2 then free (F := F) c (sOut j)
  else holds c (sIn j) (scalesV m ρ (src j c) j)

/-- The slot and the kind a transfer semaphore's number stands for. -/
def slotOf (q : DmaSem sig) : Fin 3 := ⟨q.val % 3, Nat.mod_lt _ (by decide)⟩
def kindOf (q : DmaSem sig) : Fin 4 := ⟨(q.val / 3 + 2) % 4, Nat.mod_lt _ (by decide)⟩
theorem slotOf_dsem (j : Fin 3) (k : Fin 4) : slotOf (dsem j k) = j := by
  apply Fin.ext; have := j.isLt; have := k.isLt; simp only [slotOf]; omega
theorem kindOf_dsem (j : Fin 3) (k : Fin 4) : kindOf (dsem j k) = k := by
  apply Fin.ext; have := j.isLt; have := k.isLt; simp only [kindOf]; omega

abbrev IsBar (g : GSem nD τ sig) : Prop := g.1.2 = .tc ∧ g.2 = .reg barS.sem
abbrev IsXfer (g : GSem nD τ sig) : Prop := g.1.2 = .tc ∧ ∃ q : DmaSem sig, g.2 = .dma q ∧ 6 ≤ q.val

open Classical in
/-- The schedule: the barrier of each device gets one unit from each of the three others, every transfer semaphore one
    transfer's amount. -/
def Rd : Rounds.Schedule (GSem nD τ sig) (Fin 3) 𝕄 where
  duties g r := if r = 0 ∧ IsBar g then Finset.univ else if r = 0 ∧ IsXfer g then {0} else ∅
  unitless _ := False
  amount g _ _ := match g.2 with
    | .reg _ => 1
    | .dma q => NK (kindOf q)
  payload g _ j := match g.2 with
    | .reg _ => readyPay g.1.1 j
    | .dma q => xferPay m ρ g.1.1 (slotOf q) (kindOf q)
  amount_pos g _ _ _ := by
    match g.2 with
    | .reg _ => exact Nat.one_pos
    | .dma q => exact NK_pos _

instance xferPay_storable (c : Dev nD) (j : Fin 3) (k : Fin 4) : BI.Storable (upEmb : UEmb _ 𝕄) (xferPay m ρ c j k) := by
  unfold xferPay holds; (repeat' split) <;> infer_instance

instance Rd_payload_storable (g : GSem nD τ sig) (r : ℕ) (d : Fin 3) :
    BI.Storable (upEmb : UEmb _ 𝕄) ((Rd (F := F) m ρ).payload g r d) := by
  obtain ⟨t, s⟩ := g
  cases s with
  | reg s => show BI.Storable upEmb (readyPay (F := F) t.1 d); unfold readyPay; infer_instance
  | dma q => exact xferPay_storable m ρ t.1 (slotOf q) (kindOf q)

section Tables
variable (c : Dev nD) (j : Fin 3) (k : Fin 4)

theorem duties_bar : (Rd (F := F) m ρ).duties (barCell c) 0 = Finset.univ := by dsimp only [Rd]; exact if_pos ⟨rfl, rfl, rfl⟩
theorem duties_xfer : (Rd (F := F) m ρ).duties (dCell c j k) 0 = {0} := by
  dsimp only [Rd]; rw [if_neg (fun h => by cases h.2.2)]
  exact if_pos ⟨rfl, rfl, _, rfl, by show 6 ≤ 6 + 3 * k.val + j.val; omega⟩
theorem duties_later (g : GSem nD τ sig) : ∀ r, 1 ≤ r → (Rd (F := F) m ρ).duties g r = ∅ :=
  fun r hr => by dsimp only [Rd]; rw [if_neg fun h => by omega, if_neg fun h => by omega]

theorem amount_bar (d : Fin 3) : (Rd (F := F) m ρ).amount (barCell c) 0 d = 1 := rfl
theorem amount_xfer (d : Fin 3) : (Rd (F := F) m ρ).amount (dCell c j k) 0 d = NK k := by
  show NK (kindOf (dsem j k)) = NK k; rw [kindOf_dsem]

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_xfer : (Rd (F := F) m ρ).expect (dCell c j k) 0 = NK k := by
  unfold Schedule.expect Schedule.amountOf; rw [duties_xfer, Finset.sum_singleton, amount_xfer]

theorem payload_bar (d : Fin 3) : (Rd (F := F) m ρ).payload (barCell c) 0 d = readyPay c d := rfl
theorem payload_xfer (d : Fin 3) : (Rd (F := F) m ρ).payload (dCell c j k) 0 d = xferPay m ρ c j k := by
  show xferPay m ρ c (slotOf (dsem j k)) (kindOf (dsem j k)) = _; rw [slotOf_dsem, kindOf_dsem]

theorem rest_bar : bigSep ((Rd (F := F) m ρ).duties (barCell c) 0 \ ∅) (fun d => (Rd (F := F) m ρ).payload (barCell c) 0 d)
    = iprop(readyPay c 0 ∗ readyPay c 1 ∗ readyPay c 2) := by
  rw [Finset.sdiff_empty, duties_bar, bigSep_univ_eq_bigSepL [0, 1, 2] (by decide) (by decide), bigSepL_cons_cons, bigSepL_cons_cons,
    bigSepL_singleton]
  rfl
theorem rest_xfer : bigSep ((Rd (F := F) m ρ).duties (dCell c j k) 0 \ ∅) (fun d => (Rd (F := F) m ρ).payload (dCell c j k) 0 d)
    = xferPay m ρ c j k := by
  rw [Finset.sdiff_empty, duties_xfer, bigSep_singleton, payload_xfer]

end Tables

/-! ## What each device owes at launch; the levels -/

/-- Debts listed in the order in which they are paid. -/
def owedL : List (GSem nD τ sig × ℕ) → CellTallies nD τ sig Unit
  | [] => 0
  | (g, n) :: l => owedL l + tallyAt g () n

/-- The transfers' debts: each slot's codes, then its scales, at the receiver. -/
abbrev sendDebts (c : Dev nD) : List (GSem nD τ sig × ℕ) :=
  [(dCell (dst 0 c) 0 1, NC), (dCell (dst 0 c) 0 3, NS), (dCell (dst 1 c) 1 1, NC), (dCell (dst 1 c) 1 3, NS),
    (dCell (dst 2 c) 2 1, NC), (dCell (dst 2 c) 2 3, NS)]
/-- All of a device's debts: a unit on each of the three others' barriers, then the transfers. -/
abbrev debts (c : Dev nD) : List (GSem nD τ sig × ℕ) :=
  (barCell (pl 1 c), 1) :: (barCell (pl 2 c), 1) :: (barCell (pl 3 c), 1) :: sendDebts c

abbrev O₀ (c : Dev nD) : CellTallies nD τ sig Unit := owedL (debts c)

def L (g : GSem nD τ sig) : Finset Unit := if g.1.2 = .tc then {()} else ∅
def lv (g : GSem nD τ sig) (_ : Unit) : ℕ := match g.2 with
  | .reg _ => 1
  | .dma q => if 6 ≤ q.val ∧ kindOf q ≠ 0 ∧ kindOf q ≠ 2 then 2 else 0

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _

theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    obtain ⟨g', n⟩ := p
    simp only [owedL] at h
    rw [Pi.add_apply, Finsupp.add_apply, tallyAt_apply] at h
    by_cases hg : g' = g
    · exact ⟨_, List.mem_cons_self, hg⟩
    · rw [if_neg (fun h' => hg h'.1.symm)] at h
      obtain ⟨q, hq, e⟩ := ih h
      exact ⟨q, List.mem_cons_of_mem _ hq, e⟩

theorem lv_bar (c : Dev nD) : lv (barCell c) () = 1 := rfl
theorem lv_recv (c : Dev nD) (j : Fin 3) (k : Fin 4) (hk : k = 1 ∨ k = 3) : lv (dCell c j k) () = 2 := by
  show (if 6 ≤ 6 + 3 * k.val + j.val ∧ kindOf (dsem j k) ≠ 0 ∧ kindOf (dsem j k) ≠ 2 then 2 else 0) = 2
  rw [kindOf_dsem]
  exact if_pos ⟨by omega, by rcases hk with rfl | rfl <;> decide, by rcases hk with rfl | rfl <;> decide⟩

/-- A device may wait on a cell below everything that it owes. -/
theorem mayWait (c : Dev nD) (sm : SemLoc sig) (cut : ℕ) (l : List (GSem nD τ sig × ℕ)) (hs : lv ((c : Thread nD τ), sm) () ≤ cut)
    (hl : ∀ p ∈ l, (∃ (d : Dev nD) (s : SemLoc sig), p.1 = ((d : Thread nD τ), s)) ∧ cut < lv p.1 ()) :
    (levAts L lv : sProp 𝕄) ⊢ MayWait (c : Thread nD τ) sm () (owedL l) :=
  MayOwe.of_cut (L := L) (lev := lv) cut (fun p hp => by rw [Finset.mem_singleton.mp hp]; exact mem_L c sm)
    (fun g u hg => by obtain ⟨p, hp, rfl⟩ := owedL_pos hg; obtain ⟨⟨d, s, e⟩, -⟩ := hl p hp; rw [e]; exact mem_L d s)
    (fun p hp => by rw [Finset.mem_singleton.mp hp]; exact hs)
    (fun g u hg => by obtain ⟨p, hp, rfl⟩ := owedL_pos hg; exact (hl p hp).2)

theorem sendDebts_lv (c : Dev nD) : ∀ p ∈ sendDebts c, (∃ (d : Dev nD) (s : SemLoc sig), p.1 = ((d : Thread nD τ), s)) ∧ 1 < lv p.1 () := by
  intro p hp
  simp only [sendDebts, List.mem_cons, List.not_mem_nil, or_false] at hp
  rcases hp with rfl | rfl | rfl | rfl | rfl | rfl <;>
    exact ⟨⟨_, _, rfl⟩, by rw [lv_recv _ _ _ (by decide)]; decide⟩

theorem debts_lv (c : Dev nD) : ∀ p ∈ debts c, (∃ (d : Dev nD) (s : SemLoc sig), p.1 = ((d : Thread nD τ), s)) ∧ 0 < lv p.1 () := by
  intro p hp
  simp only [debts, List.mem_cons] at hp
  rcases hp with rfl | rfl | rfl | hp
  iterate 3 exact ⟨⟨_, _, rfl⟩, by rw [lv_bar]; decide⟩
  exact ⟨(sendDebts_lv c p (by simpa only [sendDebts, List.mem_cons] using hp)).1,
    Nat.lt_trans Nat.one_pos (sendDebts_lv c p (by simpa only [sendDebts, List.mem_cons] using hp)).2⟩

/-- At its barrier wait a device owes the six transfers: above its barrier. -/
theorem mayWait_bar (c : Dev nD) : (levAts L lv : sProp 𝕄) ⊢ MayWait (c : Thread nD τ) (.reg barS.sem) () (owedL (sendDebts c)) :=
  mayWait c _ 1 _ (Nat.le_refl 1) (sendDebts_lv c)

/-- A staging semaphore is below everything owed at launch, and nothing is owed at the end. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · exact mayWait c _ 0 _ (Nat.le_of_eq (if_neg fun h => absurd h.1 (by omega))) (debts_lv c)
  · rw [MayWait_zero]; iintro -; iempintro

end Cert.Exchange

end
-- ==== Proof.Slots.lean ====
/- One operation at a time: loads and stores of a slot, a unit on another device's barrier, a transfer of a slot, a
   transfer's wait. Each is stated once, for every slot. -/
module

public import proofs.«01_k».proof.Proof.Schedule
public import Idealize.ShloMosaic.Lib.Pipeline.Value

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- The semaphores of a device that the exchange uses: its barrier, and the twelve transfer semaphores. -/
abbrev Ci : Type := Unit ⊕ (Fin 3 × Fin 4)
abbrev kcell (x : Dev nD × Ci) : GSem nD τ sig := match x.2 with
  | .inl _ => barCell x.1
  | .inr jk => dCell x.1 jk.1 jk.2

/-- The shared records of every semaphore of every device. -/
def records (K : Dev nD × Ci → ℕ) : sProp 𝕄 :=
  bigSep (Finset.univ : Finset (Dev nD × Ci)) fun x => iprop(cellInv ER (Rd m ρ) (K x) (kcell x) ∗ reached ER (kcell x) 0)

instance records_persistent (K : Dev nD × Ci → ℕ) : BI.Persistent (records m ρ K) := by unfold records; infer_instance

theorem records_at (K : Dev nD × Ci → ℕ) (x : Dev nD × Ci) :
    records m ρ K ⊢ iprop(cellInv ER (Rd m ρ) (K x) (kcell x) ∗ reached ER (kcell x) 0) := bigSep_elim (Finset.mem_univ x)

/-- Device `c` owes the listed debts. -/
def ow (c : Dev nD) (l : List (GSem nD τ sig × ℕ)) : sProp 𝕄 := iprop(∃ W, owes (c : Thread nD τ) (owedL l) W)

section Ops

/-- The weakest precondition of a piece of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Ci → ℕ) (c : Dev nD) {α : Type}

/-! ## Loads and stores of a slot -/

variable {sp : CoreSpace} {s : Shape} {e : EltTy}

theorem free_of_holds {sp : Space} {A : Memref sig .tc sp s e} {X : s.Idx → Elt F e} : holds c A X ⊢ free (F := F) c A := by
  unfold holds owns free
  iintro ⟨%f, -, H⟩
  iexists f; iexact H

/-- A load of a slot reads what the slot holds. -/
theorem load_slot (M : Memref sig .tc sp s e) (r : Rect s) {hr : ∀ a, r.stride a = 1} {X : r.shape.Idx → Elt F e}
    {hl : M.view.LoadsAt r.toLoadRect} {k : (r.shape.Idx → Elt F e) → Prog (TpuEff nD τ sig (Elt F) Λ₀ .tc) α} {Q : α → sProp 𝕄} :
    holds c (M.slice r hr) X ⊢ iprop((holds c (M.slice r hr) X -∗ WP c (k X) Q) -∗ WP c (.op (.load M r.toLoadRect hl) k) Q) := by
  unfold holds owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr; · ipureintro; exact hf
  iexact H

/-- A load of a slot of unknown contents. -/
theorem load_free (M : Memref sig .tc sp s e) (r : Rect s) {hr : ∀ a, r.stride a = 1}
    {hl : M.view.LoadsAt r.toLoadRect} {k : (r.shape.Idx → Elt F e) → Prog (TpuEff nD τ sig (Elt F) Λ₀ .tc) α} {Q : α → sProp 𝕄} :
    free c (M.slice r hr) ⊢ iprop((∀ v, free c (M.slice r hr) -∗ WP c (k v) Q) -∗ WP c (.op (.load M r.toLoadRect hl) k) Q) := by
  unfold free
  iintro ⟨%f, H⟩ Hk
  iapply (wp_load_rect 𝒱₀ (c : Thread nD τ) none Set.univ (m := M) (r := r) (Finset.Subset.refl _)) $$ H
  iintro H
  iapply Hk
  iexists f
  iexact H

/-- A store of a slot leaves what was stored. -/
theorem store_slot (M : Memref sig .tc sp s e) (r : Rect s) {hr : ∀ a, r.stride a = 1} {w X : r.shape.Idx → Elt F e} (hw : w = X)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    free c (M.slice r hr) ⊢ iprop((holds c (M.slice r hr) X -∗ WP c (k ⟨⟩) Q) -∗ WP c (.op (.store M r w Finset.univ hx hm) k) Q) := by
  subst hw
  unfold free holds owns
  iintro ⟨%f, H⟩ Hk
  iapply (wp_store 𝒱₀ (c : Thread nD τ) none Set.univ (m := M) (r := r) (Mk := Finset.univ) (S := (M.slice r hr).view.set) (Finset.Subset.refl _)) $$ H
  iintro H
  iapply Hk
  iexists _
  isplitr
  · ipureintro; exact View.read_write_univ f w
  iexact H

/-! ## The barrier -/

/-- A unit on `d`'s barrier, paid with the slots `d` sends into. -/
theorem signal_bar (d : Dev nD) (j : Fin 3) (hj : dst j d = c) (l : List (GSem nD τ sig × ℕ)) {k' : ℕ} (hk' : k' = 1)
    {k : PUnit → Prog (TpuEff nD τ sig (Elt F) Λ₀ .tc) α} {Q : α → sProp 𝕄} :
    iprop(records m ρ K ∗ ow c ((barCell d, 1) :: l) ∗ dutyTok ER (barCell d) 0 j ∗ free (F := F) c (cIn j) ∗ free (F := F) c (sIn j))
      ⊢ iprop((ow c l -∗ WP c (k ⟨⟩) Q) -∗ WP c (.op (.semSignal (d : Thread nD τ) barS.sem k') k) Q) := by
  subst hk'
  unfold ow
  iintro ⟨#HR, ⟨%W, HO⟩, Htok, Hc, Hs⟩ Hk
  ihave HI := (records_at m ρ K (d, .inl ())) $$ HR
  icases HI with ⟨#HI, #Hr⟩
  iapply (Rounds.wp_signal 𝒱₀ ER (Rd m ρ) (c : Thread nD τ) none (dst := (d : Thread nD τ)) (κ := K (d, .inl ()))
      (d := j) (by rw [duties_bar]; exact Finset.mem_univ _) (amount_bar m ρ d j) () (owedL l) rfl) $$ [HO Htok Hc Hs]
  · isplitr; · iexact HI
    isplitl [HO]; · iexact HO
    isplitl [Htok]; · iexact Htok
    isplitl [Hc Hs]
    · rw [payload_bar]; unfold readyPay; rw [hj]
      isplitl [Hc]; · iexact Hc
      iexact Hs
    · iexact Hr
  iintro HO
  iapply Hk
  iexists W
  iexact HO

/-- The wait for the three units: the slots of the three others that this device sends into, the barrier back at zero. -/
theorem wait_bar (l : List (GSem nD τ sig × ℕ)) (hw : (levAts L lv : sProp 𝕄) ⊢ MayWait (c : Thread nD τ) (.reg barS.sem) () (owedL l))
    {k' : ℕ} (hk' : k' = 3) {k : PUnit → Prog (TpuEff nD τ sig (Elt F) Λ₀ .tc) α} {Q : α → sProp 𝕄} :
    iprop(records m ρ K ∗ levAts L lv ∗ ow c l ∗ cred (tallyAt (barCell c) () 3) ∗ atPos ER (barCell c) 0 ∅ 0)
      ⊢ iprop(((ow c l ∗ semVal (barCell c) 0 ∗ readyPay c 0 ∗ readyPay c 1 ∗ readyPay c 2) -∗ WP c (k ⟨⟩) Q)
          -∗ WP c (.op (.semWait barS.sem k') k) Q) := by
  subst hk'
  unfold ow
  iintro ⟨#HR, #Hlev, ⟨%W, HO⟩, Hc, Hat⟩ Hk
  ihave HI := (records_at m ρ K (c, .inl ())) $$ HR
  icases HI with ⟨#HI, -⟩
  iapply (Rounds.wp_wait_rest_token 𝒱₀ ER (Rd m ρ) (c : Thread nD τ) none (κ := K (c, .inl ()))
      (wpE_semWait_eq 𝒱₀ (c : Thread nD τ) none Set.univ) (Set.mem_univ _) () (O := owedL l) (W := W) (R := 0) (m := 0) (T := ∅)
      (by rw [expect_bar])) $$ [Hc HO Hat]
  · isplitr; · iexact HI
    isplitl [Hc]; · iexact Hc
    isplitl [HO]; · iexact HO
    isplitr; · iapply hw; iexact Hlev
    iexact Hat
  iintro ⟨HO, Hat, -, Hpay⟩
  imod (Rounds.cell_close ER (Rd m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hz]; · iexact Hz
  iapply (Entails.of_eq (rest_bar m ρ c)); iexact Hpay

/-! ## Transfers -/

/-- Reading through one memref what was written from another, both squeezed alike, gives the other's contents. -/
theorem read_landed {s' : Shape} (A B : Memref sig .tc .vmem s e) (hq : s.Squeezes s') (hc : s.ShapeCasts s') (hc' : s'.ShapeCasts s)
    (fd : B.view.ty.Contents (Elt F)) (fs : A.view.ty.Contents (Elt F)) :
    B.view.read (Elt F) ((B.squeeze s' hq).view.write (Elt F) fd ((A.squeeze s' hq).view.read (Elt F) fs) Finset.univ)
      = A.view.read (Elt F) fs := by
  have h := View.read_write_univ (v := (B.squeeze s' hq).view) fd ((A.squeeze s' hq).view.read (Elt F) fs)
  have e : ∀ (M : Memref sig .tc .vmem s e) (f : M.view.ty.Contents (Elt F)),
      (M.squeeze s' hq).view.read (Elt F) f = shapeCast s' (M.view.read (Elt F) f) hc := fun _ _ => rfl
  rw [e, e] at h
  have h' := congrArg (fun v => shapeCast s v hc') h
  rw [shapeCast_shapeCast, shapeCast_shapeCast] at h'
  exact h'

/-- A transfer of slot `j` to device `d`: the source slot goes into the transfer, and the receiver's slot. -/
theorem send_slot {s' : Shape} (d n : Dev nD) (hn : n = d) (j : Fin 3) (k₁ k₂ : Fin 4) (A B : Memref sig .tc .vmem s e)
    (X : s.Idx → Elt F e) (hq : s.Squeezes s') (hc : s.ShapeCasts s') (hc' : s'.ShapeCasts s)
    (l : List (GSem nD τ sig × ℕ)) (N : ℕ)
    (hN : (B.squeeze s' hq).view.dmaCredit = N) (h₁ : NK k₁ = N) (h₂ : NK k₂ = N)
    (hp₁ : xferPay m ρ c j k₁ = free c A) (hp₂ : xferPay m ρ d j k₂ = holds d B X)
    {hsc : (B.squeeze s' hq : Memref sig (Dev.tc n : Thread nD τ).2.kind .vmem s' e).view.ref.isScScratch = false}
    {hsrc : (A.squeeze s' hq).view.WordExact} {hdst : (B.squeeze s' hq).view.WordExact}
    {hsem : DmaTarget.Typed .vmem (.dma (dsem j k₂)) (.remote (Dev.tc n : Thread nD τ) (B.squeeze s' hq) (.dma (dsem j k₁)) hsc)}
    {k : PUnit → Prog (TpuEff nD τ sig (Elt F) Λ₀ .tc) α} {Q : α → sProp 𝕄} :
    iprop(records m ρ K ∗ holds c A X ∗ free (F := F) d B ∗ ow c ((dCell d j k₂, N) :: l)
        ∗ dutyTok ER (dCell c j k₁) 0 0 ∗ dutyTok ER (dCell d j k₂) 0 0)
      ⊢ iprop(((cred (tallyAt (dCell c j k₁) () N) ∗ ow c l) -∗ WP c (k ⟨⟩) Q)
          -∗ WP c (.op (.enqueueDma (A.squeeze s' hq) (.remote (Dev.tc n : Thread nD τ) (B.squeeze s' hq) (.dma (dsem j k₁)) hsc) (.dma (dsem j k₂)) hsrc hdst hsem) k) Q) := by
  subst hn
  unfold ow
  iintro ⟨#HR, HA, HB, ⟨%W, HO⟩, Ht₁, Ht₂⟩ Hk
  ihave HI₁ := (records_at m ρ K (c, .inr (j, k₁))) $$ HR
  icases HI₁ with ⟨#HI₁, #Hr₁⟩
  ihave HI₂ := (records_at m ρ K (n, .inr (j, k₂))) $$ HR
  icases HI₂ with ⟨#HI₂, #Hr₂⟩
  unfold holds owns
  icases HA with ⟨%fs, %hfs, HA⟩
  unfold free
  icases HB with ⟨%fd, HB⟩
  iapply (Rounds.wp_send_pointsTo 𝒱₀ ER (Rd m ρ) (c : Thread nD τ) none (c' := (n : Thread nD τ)) (src := A.squeeze s' hq) (dst := B.squeeze s' hq)
    (sS := .dma (dsem j k₁)) (sem := .dma (dsem j k₂))
    (κ₁ := K (c, .inr (j, k₁))) (κ₂ := K (n, .inr (j, k₂)))
    (r₁ := 0) (r₂ := 0) (d₁ := 0) (d₂ := 0) (fd := fd) (fs := fs) (q := fullShare)
    (by rw [duties_xfer]; exact Finset.mem_singleton_self _) (by rw [duties_xfer]; exact Finset.mem_singleton_self _)
    () () N hN ((amount_xfer m ρ c j k₁ 0).trans h₁) ((amount_xfer m ρ n j k₂ 0).trans h₂) (owedL l) rfl (W := W)
    (by
      rw [payload_xfer, hp₁, Memref.set_view_squeeze]; unfold free
      iintro H; iexists fs; iexact H)
    (by
      rw [payload_xfer, hp₂, Memref.set_view_squeeze]; unfold holds owns
      iintro H; iexists _
      isplitr
      · ipureintro; exact (read_landed A B hq hc hc' fd fs).trans hfs
      iexact H)) $$ [HA HB HO Ht₁ Ht₂]
  · rw [Memref.set_view_squeeze, Memref.set_view_squeeze]
    isplitr; · iexact HI₁
    isplitr; · iexact HI₂
    isplitl [HA]; · iexact HA
    isplitl [HB]; · iexact HB
    isplitl [HO]; · iexact HO
    isplitl [Ht₁]; · iexact Ht₁
    isplitr; · iexact Hr₁
    isplitl [Ht₂]; · iexact Ht₂
    iexact Hr₂
  iintro ⟨Hcr, HO⟩
  iapply Hk
  isplitl [Hcr]; · iexact Hcr
  iexists W
  iexact HO

/-- A transfer's wait, owing nothing: its payload, and its semaphore back at zero. -/
theorem wait_slot (j : Fin 3) (k₀ : Fin 4) {sp₁ sp₂ : Space} {s₁ s₂ : Shape} {e₁ e₂ : EltTy}
    {a : Memref sig .tc sp₁ s₁ e₁} {b : Memref sig .tc sp₂ s₂ e₂} {ha : a.view.WordExact} {hb : b.view.WordExact}
    (hN : b.view.dmaCredit = NK k₀) {k : PUnit → Prog (TpuEff nD τ sig (Elt F) Λ₀ .tc) α} {Q : α → sProp 𝕄} :
    iprop(records m ρ K ∗ ow c [] ∗ cred (tallyAt (dCell c j k₀) () (NK k₀)) ∗ atPos ER (dCell c j k₀) 0 ∅ 0)
      ⊢ iprop(((ow c [] ∗ semVal (dCell c j k₀) 0 ∗ xferPay m ρ c j k₀) -∗ WP c (k ⟨⟩) Q)
          -∗ WP c (.op (.waitDma2 (dsem j k₀) a b ha hb) k) Q) := by
  unfold ow
  iintro ⟨#HR, ⟨%W, HO⟩, Hc, Hat⟩ Hk
  ihave HI := (records_at m ρ K (c, .inr (j, k₀))) $$ HR
  icases HI with ⟨#HI, -⟩
  iapply (Rounds.wp_wait_rest_token 𝒱₀ ER (Rd m ρ) (c : Thread nD τ) none (κ := K (c, .inr (j, k₀)))
      (wpE_waitDma2_eq 𝒱₀ (c : Thread nD τ) none Set.univ) (Set.mem_univ _) () (O := owedL []) (W := W) (R := 0) (m := 0) (T := ∅)
      (by rw [Nat.zero_add, hN, expect_xfer])) $$ [Hc HO Hat]
  · rw [hN]
    isplitr; · iexact HI
    isplitl [Hc]; · iexact Hc
    isplitl [HO]; · iexact HO
    isplitr; · rw [show owedL [] = 0 from rfl, MayWait_zero]; iempintro
    iexact Hat
  iintro ⟨HO, Hat, -, Hpay⟩
  imod (Rounds.cell_close ER (Rd m ρ) (Set.mem_univ (K (c, .inr (j, k₀)))) (fun h => h) (R := 0 + 1) (duties_later m ρ (dCell c j k₀))) $$ [Hat] with Hz
  · isplitr; · iexact HI
    iexact Hat
  iapply Hk
  isplitl [HO]; · iexists _; iexact HO
  isplitl [Hz]; · iexact Hz
  iapply (Entails.of_eq (rest_xfer m ρ c j k₀)); iexact Hpay

end Ops

end Cert.Exchange

end
-- ==== Proof.Ops.lean ====
/- The pieces of the kernel's body share their buffers and semaphores; here are those, the loads and stores of a whole
   buffer, the two transfers of a slot, the two waits, and the four stores that stack a device's experts. -/
module

public import proofs.«01_k».proof.Proof.Slots
public import Idealize.ShloMosaic.Lib.Pipeline.FrameBody
public import Idealize.ShloMosaic.Lib.Ring

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

universe u

/-- A piece of the body at the launch's buffers and semaphores. -/
abbrev atBufs {β : Sort u} (f : ∀
      (arg0 : Memref sig .tc .vmem S2048x512 .bf16) (harg0 : arg0.IsWhole) (arg1 : Memref sig .tc .vmem S512x16 .bf16)
      (harg1 : arg1.IsWhole) (arg2 : Memref sig .tc .vmem S2048x1 .i32) (harg2 : arg2.IsWhole)
      (arg3 : Memref sig .tc .vmem S4x512x1024 .bf16) (harg3 : arg3.IsWhole) (arg4 : Memref sig .tc .vmem S512x1024 .bf16)
      (harg4 : arg4.IsWhole) (arg5 : Memref sig .tc .vmem S512x1024 .f32) (harg5 : arg5.IsWhole)
      (arg6 : Memref sig .tc .vmem S2048x1 .f32) (harg6 : arg6.IsWhole) (arg7 : Memref sig .tc .vmem S2048x1024 .bf16)
      (harg7 : arg7.IsWhole) (arg8 : Memref sig .tc .vmem S3x512x1024 .i8) (harg8 : arg8.IsWhole)
      (arg9 : Memref sig .tc .vmem S3x512x1024 .i8) (harg9 : arg9.IsWhole) (arg10 : Memref sig .tc .vmem S3x512x1 .f32)
      (harg10 : arg10.IsWhole) (arg11 : Memref sig .tc .vmem S3x512x1 .f32) (harg11 : arg11.IsWhole) (arg12 : DmaSems sig S3)
      (arg13 : DmaSems sig S3) (arg14 : DmaSems sig S3) (arg15 : DmaSems sig S3), β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9

/-! ## Whole buffers -/

theorem hz2 : (![0, 0] : Fin 2 → ℕ) = fun _ => 0 := funext fun a => by fin_cases a <;> rfl

theorem hz3 : (![0, 0, 0] : Fin 3 → ℕ) = fun _ => 0 := funext fun a => by fin_cases a <;> rfl

/-- A buffer of device `c` holding `X`. -/
abbrev pts (c : Dev nD) (b : Ref sig .tc) (X : b.ty.Contents (Elt F)) : sProp 𝕄 := (c : Thread nD τ).loc b ↦{fullShare} X

section Ops

variable (K : Dev nD × Ci → ℕ) (c : Dev nD) {α : Type} {s : Shape} {e : EltTy}

/-- A finished piece hands on its result. -/
theorem done_ret {a : α} {Q : α → sProp 𝕄} : Q a ⊢ WP c (.ret a) Q := by
  unfold WP; rw [wp_ret]; exact fupd_intro

/-- A load of part of a buffer reads the part. -/
theorem load_at (M : Memref sig .tc .vmem s e) (r : LoadRect s) {v : r.shape.Idx → Elt F e} {f : M.view.ty.Contents (Elt F)}
    (hv : M.view.readAt (Elt F) r f = v) {hl : M.view.LoadsAt r}
    {k : (r.shape.Idx → Elt F e) → Prog (TpuEff nD τ sig (Elt F) Λ₀ .tc) α} {Q : α → sProp 𝕄} :
    (M.view.loc (c : Thread nD τ) ↦{fullShare} f : sProp 𝕄)
      ⊢ iprop(((M.view.loc (c : Thread nD τ) ↦{fullShare} f) -∗ WP c (k v) Q) -∗ WP c (.op (.load (cs := .vmem) M r hl) k) Q) := by
  subst hv
  exact wp_load 𝒱₀ (c : Thread nD τ) none Set.univ (m := M) (Finset.subset_univ _)

/-- A store to part of a buffer. -/
theorem store_at (M : Memref sig .tc .vmem s e) (r : Rect s) {w : r.shape.Idx → Elt F e} {f g : M.view.ty.Contents (Elt F)}
    (hg : (M.access r).write (Elt F) f w Finset.univ = g)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (M.view.loc (c : Thread nD τ) ↦{fullShare} f : sProp 𝕄)
      ⊢ iprop(((M.view.loc (c : Thread nD τ) ↦{fullShare} g) -∗ WP c (k ⟨⟩) Q) -∗ WP c (.op (.store (cs := .vmem) M r w Finset.univ hx hm) k) Q) := by
  subst hg
  exact wp_store 𝒱₀ (c : Thread nD τ) none Set.univ (m := M) (r := r) (Mk := Finset.univ) (S := Finset.univ) (Finset.subset_univ _)

/-! ## The two transfers of a slot, and the two waits -/

/-- The rights to raise the four semaphores of a slot's two transfers. -/
def sendToks (j : Fin 3) : sProp 𝕄 :=
  iprop(dutyTok ER (dCell c j 0) 0 0 ∗ dutyTok ER (dCell (dst j c) j 1) 0 0 ∗ dutyTok ER (dCell c j 2) 0 0 ∗ dutyTok ER (dCell (dst j c) j 3) 0 0)

/-- The credits and positions of the waits for a slot's two transfers of kinds `k₀` and `k₁`. -/
def awaits (j : Fin 3) (k₀ : Fin 4) : sProp 𝕄 := iprop(cred (tallyAt (dCell c j k₀) () (NK k₀)) ∗ atPos ER (dCell c j k₀) 0 ∅ 0)

/-- A slot filled with its chunk's codes and scales. -/
def filled (j : Fin 3) : sProp 𝕄 := iprop(holds c (cOut j) (codesV m ρ c j) ∗ holds c (sOut j) (scalesV m ρ c j))

theorem send_both (j : Fin 3) (n n' : Dev nD) (hn : n = dst j c) (hn' : n' = dst j c) (l : List (GSem nD τ sig × ℕ))
    {hsc hsrc hdst hsem hsc' hsrc' hdst' hsem'}
    {k : PUnit → Prog (TpuEff nD τ sig (Elt F) Λ₀ .tc) α} {Q : α → sProp 𝕄} :
    iprop(records m ρ K ∗ filled m ρ c j ∗ readyPay c j ∗ sendToks c j ∗ ow c ((dCell (dst j c) j 1, NC) :: (dCell (dst j c) j 3, NS) :: l))
      ⊢ iprop(((cred (tallyAt (dCell c j 0) () (NK 0)) ∗ cred (tallyAt (dCell c j 2) () (NK 2)) ∗ ow c l) -∗ WP c (k ⟨⟩) Q)
          -∗ WP c (.op (.enqueueDma ((cOut j).squeeze S512x1024 squeezes_S1x512x1024_S512x1024)
                (.remote (Dev.tc n : Thread nD τ) ((cIn j).squeeze S512x1024 squeezes_S1x512x1024_S512x1024) (.dma (dsem j 0)) hsc) (.dma (dsem j 1)) hsrc hdst hsem)
              fun _ => .op (.enqueueDma ((sOut j).squeeze S512x1 squeezes_S1x512x1_S512x1)
                (.remote (Dev.tc n' : Thread nD τ) ((sIn j).squeeze S512x1 squeezes_S1x512x1_S512x1) (.dma (dsem j 2)) hsc') (.dma (dsem j 3)) hsrc' hdst' hsem') k) Q) := by
  unfold filled sendToks readyPay
  iintro ⟨#HR, ⟨HA, HB⟩, ⟨Hc, Hs⟩, ⟨H0, H1, H2, H3⟩, HO⟩ Hk
  iapply (send_slot m ρ K c (dst j c) n hn j 0 1 (cOut j) (cIn j) (codesV m ρ c j) squeezes_S1x512x1024_S512x1024 (by decide) (by decide)
      ((dCell (dst j c) j 3, NS) :: l) NC rfl rfl rfl (by rfl) (by
        show holds (dst j c) (cIn j) (codesV m ρ (src j (dst j c)) j) = _; rw [src_dst])) $$ [HA Hc H0 H1 HO]
  · isplitr; · iexact HR
    isplitl [HA]; · iexact HA
    isplitl [Hc]; · iexact Hc
    isplitl [HO]; · iexact HO
    isplitl [H0]; · iexact H0
    iexact H1
  iintro ⟨Hc0, HO⟩
  iapply (send_slot m ρ K c (dst j c) n' hn' j 2 3 (sOut j) (sIn j) (scalesV m ρ c j) squeezes_S1x512x1_S512x1 (by decide) (by decide)
      l NS rfl rfl rfl (by rfl) (by
        show holds (dst j c) (sIn j) (scalesV m ρ (src j (dst j c)) j) = _; rw [src_dst])) $$ [HB Hs H2 H3 HO]
  · isplitr; · iexact HR
    isplitl [HB]; · iexact HB
    isplitl [Hs]; · iexact Hs
    isplitl [HO]; · iexact HO
    isplitl [H2]; · iexact H2
    iexact H3
  iintro ⟨Hc2, HO⟩
  iapply Hk
  isplitl [Hc0]; · iexact Hc0
  isplitl [Hc2]; · iexact Hc2
  iexact HO

/-- The waits for a slot's codes and scales, both sent or both received. -/
theorem wait_both (j : Fin 3) (k₀ k₁ : Fin 4) {s₁ s₂ s₃ s₄ : Shape} {e₁ e₂ e₃ e₄ : EltTy} {sp₁ sp₂ sp₃ sp₄ : Space}
    {a : Memref sig .tc sp₁ s₁ e₁} {b : Memref sig .tc sp₂ s₂ e₂} {ha : a.view.WordExact} {hb : b.view.WordExact}
    {a' : Memref sig .tc sp₃ s₃ e₃} {b' : Memref sig .tc sp₄ s₄ e₄} {ha' : a'.view.WordExact} {hb' : b'.view.WordExact}
    (hN : b.view.dmaCredit = NK k₀) (hN' : b'.view.dmaCredit = NK k₁)
    {k : PUnit → Prog (TpuEff nD τ sig (Elt F) Λ₀ .tc) α} {Q : α → sProp 𝕄} :
    iprop(records m ρ K ∗ ow c [] ∗ awaits c j k₀ ∗ awaits c j k₁)
      ⊢ iprop(((ow c [] ∗ semVal (dCell c j k₀) 0 ∗ semVal (dCell c j k₁) 0 ∗ xferPay m ρ c j k₀ ∗ xferPay m ρ c j k₁) -∗ WP c (k ⟨⟩) Q)
          -∗ WP c (.op (.waitDma2 (dsem j k₀) a b ha hb) fun _ => .op (.waitDma2 (dsem j k₁) a' b' ha' hb') k) Q) := by
  unfold awaits
  iintro ⟨#HR, HO, ⟨Hc0, Ha0⟩, ⟨Hc1, Ha1⟩⟩ Hk
  iapply (wait_slot m ρ K c j k₀ hN) $$ [HO Hc0 Ha0]
  · isplitr; · iexact HR
    isplitl [HO]; · iexact HO
    isplitl [Hc0]; · iexact Hc0
    iexact Ha0
  iintro ⟨HO, Hz0, Hp0⟩
  iapply (wait_slot m ρ K c j k₁ hN') $$ [HO Hc1 Ha1]
  · isplitr; · iexact HR
    isplitl [HO]; · iexact HO
    isplitl [Hc1]; · iexact Hc1
    iexact Ha1
  iintro ⟨HO, Hz1, Hp1⟩
  iapply Hk
  isplitl [HO]; · iexact HO
  isplitl [Hz0]; · iexact Hz0
  isplitl [Hz1]; · iexact Hz1
  isplitl [Hp0]; · iexact Hp0
  iexact Hp1

end Ops

/-! ## The stacked experts -/

section Experts

/-- One expert's weights among the four. -/
theorem inbE (k : ℕ) (hk : k < 4) : ∀ a, (![k, 0, 0] : Fin 3 → ℕ) a + S1x512x1024.size a ≤ S4x512x1024.size a := by
  interval_cases k <;> decide
theorem inbW (k : ℕ) (hk : k < 4) : ∀ a, (![512 * k, 0] : Fin 2 → ℕ) a + S512x1024.size a ≤ S2048x1024.size a := by
  interval_cases k <;> decide
abbrev slab (c : Dev nD) (k : ℕ) (hk : k < 4) : Vec F S1x512x1024 .bf16 :=
  (Memref.whole cc0_stg3_0).view.readAt (Elt F) (Rect.unit (s := S4x512x1024) ![k, 0, 0] S1x512x1024.size (inbE k hk)).toLoadRect (exV m ρ c)

/-- A store to an expert's place in the stack. -/
abbrev stackPiece (k : ℕ) (hk : k < 4) (w : Vec F S512x1024 .bf16) : View.Piece (Elt F) S2048x1024 .bf16 :=
  ⟨Rect.unit (s := S2048x1024) ![512 * k, 0] S512x1024.size (inbW k hk), w⟩

/-- The four stores that stack the experts, the last first. -/
abbrev stacking (c : Dev nD) : List (View.Piece (Elt F) S2048x1024 .bf16) :=
  [stackPiece 3 (by decide) (k0_pay5 (slab m ρ c 3 (by decide))),
    stackPiece 2 (by decide) (k0_pay4 (slab m ρ c 2 (by decide))),
    stackPiece 1 (by decide) (k0_pay3 (slab m ρ c 1 (by decide))),
    stackPiece 0 (by decide) (k0_pay2 (slab m ρ c 0 (by decide)))]

/-- The buffer after the stores up to the given one. -/
abbrev stackUpTo (c : Dev nD) (f : Vec F S2048x1024 .bf16) (n : ℕ) : Vec F S2048x1024 .bf16 :=
  (Memref.whole cc0_scratch1).view.writes (Elt F) f ((stacking m ρ c).drop n)

theorem stacking_cover (c : Dev nD) : ∀ y, ∃ p ∈ stacking m ρ c, y ∈ p.1.set :=
  View.cover_of_tiledL _ S512x1024.size (by rfl)

/-- An expert's weights lie in the stack at the expert's place. -/
theorem slab_at (c : Dev nD) (k : ℕ) (hk : k < 4) (h : S1x512x1024.ShapeCasts S512x1024) (x : S512x1024.Idx) :
    shapeCast S512x1024 (slab m ρ c k hk) h x
      = ewV m ρ c ((Rect.unit (s := S2048x1024) ![512 * k, 0] S512x1024.size (inbW k hk)).emb x) := by
  have h0 : (x 0).val < 512 := (x 0).isLt
  have h1 : (x 1).val < 1024 := (x 1).isLt
  let y : S1x512x1024.Idx := fun a => match a with | 0 => (⟨0, by decide⟩ : Fin 1) | 1 => (⟨(x 0).val, h0⟩ : Fin 512) | 2 => (⟨(x 1).val, h1⟩ : Fin 1024)
  let z : S4x512x1024.Idx := fun a => match a with | 0 => (⟨k, hk⟩ : Fin 4) | 1 => (⟨(x 0).val, h0⟩ : Fin 512) | 2 => (⟨(x 1).val, h1⟩ : Fin 1024)
  have e1 : shapeCast S512x1024 (slab m ρ c k hk) h x = slab m ρ c k hk y := by
    refine congrArg (slab m ρ c k hk) (Shape.reshapeEquiv_eq_of_rowMajor _ ?_)
    rw [Shape.rowMajor_val_three, Shape.rowMajor_val_two]
    show (0 * 512 + (x 0).val) * 1024 + (x 1).val = (x 0).val * 1024 + (x 1).val
    omega
  have e2 : slab m ρ c k hk y = exV m ρ c z := by
    show exV m ρ c ((Rect.unit (s := S4x512x1024) ![k, 0, 0] S1x512x1024.size (inbE k hk)).emb y) = _
    refine congrArg (exV m ρ c) (funext fun a => Fin.ext ?_)
    match a with
    | 0 => show k + 1 * 0 = k; omega
    | 1 => show 0 + 1 * (x 0).val = (x 0).val; omega
    | 2 => show 0 + 1 * (x 1).val = (x 1).val; omega
  have e3 : ewV m ρ c ((Rect.unit (s := S2048x1024) ![512 * k, 0] S512x1024.size (inbW k hk)).emb x) = exV m ρ c z := by
    refine congrArg (exV m ρ c) (Shape.reshapeEquiv_eq_of_rowMajor _ ?_)
    rw [Shape.rowMajor_val_three, Shape.rowMajor_val_two]
    show (k * 512 + (x 0).val) * 1024 + (x 1).val = (512 * k + 1 * (x 0).val) * 1024 + (0 + 1 * (x 1).val)
    omega
  exact e1.trans (e2.trans e3.symm)

theorem slab_stack (c : Dev nD) (k : ℕ) (hk : k < 4) (w : Vec F S512x1024 .bf16) (hw : ∀ x, w x = shapeCast S512x1024 (slab m ρ c k hk) (by decide) x) :
    ∀ x : (stackPiece k hk w).1.shape.Idx, (stackPiece k hk w).2 x = ewV m ρ c ((stackPiece k hk w).1.emb x) :=
  fun x => (hw x).trans (slab_at m ρ c k hk _ x)

theorem stacked (c : Dev nD) (f : Vec F S2048x1024 .bf16) :
    (Memref.whole cc0_scratch1).view.writes (Elt F) f (stacking m ρ c) = ewV m ρ c := by
  haveI : ∀ e, Nonempty (Elt F e) := fun e => ⟨default⟩
  have hG : ∀ p ∈ stacking m ρ c, ∀ x : p.1.shape.Idx, p.2 x = ewV m ρ c (p.1.emb x) := by
    intro p hp
    rcases List.mem_cons.mp hp with rfl | hp
    · exact slab_stack m ρ c 3 (by decide) _ (congrFun (shapeCast_self _ _))
    rcases List.mem_cons.mp hp with rfl | hp
    · exact slab_stack m ρ c 2 (by decide) _ (congrFun (shapeCast_self _ _))
    rcases List.mem_cons.mp hp with rfl | hp
    · exact slab_stack m ρ c 1 (by decide) _ (congrFun (shapeCast_self _ _))
    rcases List.mem_cons.mp hp with rfl | hp
    · exact slab_stack m ρ c 0 (by decide) _ (congrFun (shapeCast_self _ _))
    exact absurd hp List.not_mem_nil
  have h := View.read_writes_eq_canon (Memref.whole cc0_scratch1).view f (stacking m ρ c) (stacking_cover m ρ c)
  have e : ∀ g, (Memref.whole cc0_scratch1).view.read (Elt F) g = g := fun _ => rfl
  rw [e] at h
  refine h.trans (funext fun y => ?_)
  exact View.canon_apply_of_pieces (ewV m ρ c) (stacking m ρ c) hG y (stacking_cover m ρ c y)

end Experts

end Cert.Exchange

end
-- ==== Proof.PartsA.lean ====
/- The pieces of the kernel's body up to the device's own chunk: what each leaves, from what each needs. -/
module

public import proofs.«01_k».proof.Proof.Ops

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Parts

variable (K : Dev nD × Ci → ℕ) (c : Dev nD)

/-- The device's number among the devices, as the kernel computes it. -/
abbrev num : BitVec 32 := Scalar.remsi (Scalar.divsi (Dev.word c) 1#32) 4#32

/-- The buffers every chunk is computed from. -/
def table : sProp 𝕄 :=
  iprop(pts c cc0_stg0_0 (xV m ρ c) ∗ pts c cc0_stg2_0 (riV m ρ c) ∗ pts c cc0_scratch0 (coV m ρ c) ∗ pts c cc0_scratch1 (ewV m ρ c))

/-- The weights of the tokens on the device's own experts. -/
theorem part1 (f : S2048x1.Idx → Elt F .f32) (Q : (Σ' (d0 : Dev nD) (v2 : BitVec 32) (v3 : BitVec 32), Vec F S1x512x1024 .bf16) → sProp 𝕄) :
    iprop((pts c cc0_stg0_0 (xV m ρ c) ∗ pts c cc0_stg1_0 (rwV m ρ c) ∗ pts c cc0_stg2_0 (riV m ρ c) ∗ pts c cc0_stg3_0 (exV m ρ c) ∗ pts c cc0_scratch0 f)
        ∗ ((pts c cc0_stg0_0 (xV m ρ c) ∗ pts c cc0_stg1_0 (rwV m ρ c) ∗ pts c cc0_stg2_0 (riV m ρ c) ∗ pts c cc0_stg3_0 (exV m ρ c) ∗ pts c cc0_scratch0 (coV m ρ c))
            -∗ Q ⟨c, num c, base c, slab m ρ c 0 (by decide)⟩))
      ⊢ WP c (atBufs (k0_part1_skel (F := F))) Q := by
  unfold atBufs k0_part1_skel
  simp only [semSignalWord, semWaitWord, Prog.lift, Prog.bind_op, Prog.bind_ret, Prog.pure_eq_ret, Prog.bind_assoc, wp_deviceId]
  iintro ⟨⟨Hx, Hw, Hr, He, Hc⟩, Hk⟩
  iapply (load_at c (Memref.whole cc0_stg0_0) _ (f := (xV m ρ c)) (Memref.readAt_unit_zero (Elt F) cc0_stg0_0 hz2 _ _)) $$ Hx; iintro Hx
  iapply (load_at c (Memref.whole cc0_stg1_0) _ (f := (rwV m ρ c)) (Memref.readAt_unit_zero (Elt F) cc0_stg1_0 hz2 _ _)) $$ Hw; iintro Hw
  iapply (load_at c (Memref.whole cc0_stg2_0) _ (f := (riV m ρ c)) (Memref.readAt_unit_zero (Elt F) cc0_stg2_0 hz2 _ _)) $$ Hr; iintro Hr
  iapply (load_at c (Memref.whole cc0_scratch0) _ (f := f) rfl) $$ Hc; iintro Hc
  iapply (store_at c (Memref.whole cc0_scratch0) _ (f := f) (g := (coV m ρ c)) (Memref.write_access_unit_zero_univ (Elt F) cc0_scratch0 hz2 _ _ _)) $$ Hc; iintro Hc
  iapply (load_at c (Memref.whole cc0_stg3_0) _ (f := (exV m ρ c)) rfl) $$ He; iintro He
  iapply (done_ret c)
  iapply Hk
  isplitl [Hx]; · iexact Hx
  isplitl [Hw]; · iexact Hw
  isplitl [Hr]; · iexact Hr
  isplitl [He]; · iexact He
  iexact Hc

/-- The four experts' weights stacked; a unit on the barrier of the device one place further. -/
theorem part2 (f : S2048x1024.Idx → Elt F .bf16) (l : List (GSem nD τ sig × ℕ)) (Q : Sems sig S_ → sProp 𝕄) :
    iprop((records m ρ K ∗ pts c cc0_stg3_0 (exV m ρ c) ∗ pts c cc0_scratch1 f
          ∗ ow c ((barCell (pl 1 c), 1) :: l) ∗ dutyTok ER (barCell (pl 1 c)) 0 2 ∗ free (F := F) c (cIn 2) ∗ free (F := F) c (sIn 2))
        ∗ ((pts c cc0_stg3_0 (exV m ρ c) ∗ pts c cc0_scratch1 (ewV m ρ c) ∗ ow c l) -∗ Q barS))
      ⊢ WP c (atBufs (k0_part2_skel (F := F)) c (num c) (slab m ρ c 0 (by decide))) Q := by
  unfold atBufs k0_part2_skel
  simp only [semSignalWord, semWaitWord, Prog.lift, Prog.bind_op, Prog.bind_ret, Prog.pure_eq_ret, Prog.bind_assoc, wp_deviceId]
  simp only [dev1_eq c]
  iintro ⟨⟨#HR, He, Hc, HO, Ht, Hf, Hs⟩, Hk⟩
  iapply (load_at c (Memref.whole cc0_scratch1) _ (f := f) rfl) $$ Hc; iintro Hc
  iapply (store_at c (Memref.whole cc0_scratch1) _ (f := f) (g := stackUpTo m ρ c f 3) rfl) $$ Hc; iintro Hc
  iapply (load_at c (Memref.whole cc0_stg3_0) _ (f := (exV m ρ c)) rfl) $$ He; iintro He
  iapply (load_at c (Memref.whole cc0_scratch1) _ rfl) $$ Hc; iintro Hc
  iapply (store_at c (Memref.whole cc0_scratch1) _ (f := stackUpTo m ρ c f 3) (g := stackUpTo m ρ c f 2) rfl) $$ Hc; iintro Hc
  iapply (load_at c (Memref.whole cc0_stg3_0) _ (f := (exV m ρ c)) rfl) $$ He; iintro He
  iapply (load_at c (Memref.whole cc0_scratch1) _ rfl) $$ Hc; iintro Hc
  iapply (store_at c (Memref.whole cc0_scratch1) _ (f := stackUpTo m ρ c f 2) (g := stackUpTo m ρ c f 1) rfl) $$ Hc; iintro Hc
  iapply (load_at c (Memref.whole cc0_stg3_0) _ (f := (exV m ρ c)) rfl) $$ He; iintro He
  iapply (load_at c (Memref.whole cc0_scratch1) _ rfl) $$ Hc; iintro Hc
  iapply (store_at c (Memref.whole cc0_scratch1) _ (f := stackUpTo m ρ c f 1) (g := ewV m ρ c) (stacked m ρ c f)) $$ Hc; iintro Hc
  iapply (signal_bar m ρ K c (pl 1 c) 2 (dst_src 2 c) l rfl) $$ [HO Ht Hf Hs]
  · isplitr; · iexact HR
    isplitl [HO]; · iexact HO
    isplitl [Ht]; · iexact Ht
    isplitl [Hf]; · iexact Hf
    iexact Hs
  iintro HO
  iapply (done_ret c)
  iapply Hk
  isplitl [He]; · iexact He
  isplitl [Hc]; · iexact Hc
  iexact HO

/-- The two other units, the wait for three, and the first chunk's tokens and routes. -/
theorem part3 (Q : (Σ' (v71 : BitVec 32) (v72 : BitVec 32) (v76 : FVec F S512x512 .bf16) (v79 : IVec S512x1 32) (v86 : FVec F S512x512 .bf16) (v93 : FVec F S512x512 .bf16) (v100 : FVec F S512x512 .bf16), IVec S512x1 32) → sProp 𝕄) :
    iprop((records m ρ K ∗ levAts L lv ∗ pts c cc0_stg0_0 (xV m ρ c) ∗ pts c cc0_stg2_0 (riV m ρ c)
          ∗ ow c ((barCell (pl 2 c), 1) :: (barCell (pl 3 c), 1) :: sendDebts c)
          ∗ (dutyTok ER (barCell (pl 2 c)) 0 1 ∗ free (F := F) c (cIn 1) ∗ free (F := F) c (sIn 1))
          ∗ (dutyTok ER (barCell (pl 3 c)) 0 0 ∗ free (F := F) c (cIn 0) ∗ free (F := F) c (sIn 0))
          ∗ cred (tallyAt (barCell c) () 3) ∗ atPos ER (barCell c) 0 ∅ 0)
        ∗ ((pts c cc0_stg0_0 (xV m ρ c) ∗ pts c cc0_stg2_0 (riV m ρ c) ∗ ow c (sendDebts c) ∗ semVal (barCell c) 0 ∗ readyPay c 0 ∗ readyPay c 1 ∗ readyPay c 2)
            -∗ Q ⟨Scalar.remsi (Scalar.addi (num c) 1#32) 4#32, Scalar.muli (Scalar.remsi (Scalar.addi (num c) 1#32) 4#32) 512#32, k0_pay6 (xRows m ρ c 0), k0_pay7 (F := F) (riRows m ρ c 0), k0_pay8 (base c) (xRows m ρ c 0) (riRows m ρ c 0),
                k0_pay9 (base c) (xRows m ρ c 0) (riRows m ρ c 0), k0_pay10 (base c) (xRows m ρ c 0) (riRows m ρ c 0), k0_pay11 (base c)⟩))
      ⊢ WP c (atBufs (k0_part3_skel (F := F)) c (num c) (base c) barS) Q := by
  unfold atBufs k0_part3_skel
  simp only [semSignalWord, semWaitWord, Prog.lift, Prog.bind_op, Prog.bind_ret, Prog.pure_eq_ret, Prog.bind_assoc, wp_deviceId]
  simp only [dev2_eq c, dev3_eq c]
  iintro ⟨⟨#HR, #Hlev, Hx, Hr, HO, ⟨Ht1, Hf1, Hs1⟩, ⟨Ht0, Hf0, Hs0⟩, Hcr, Hat⟩, Hk⟩
  iapply (signal_bar m ρ K c (pl 2 c) 1 (dst_src 1 c) _ rfl) $$ [HO Ht1 Hf1 Hs1]
  · isplitr; · iexact HR
    isplitl [HO]; · iexact HO
    isplitl [Ht1]; · iexact Ht1
    isplitl [Hf1]; · iexact Hf1
    iexact Hs1
  iintro HO
  iapply (signal_bar m ρ K c (pl 3 c) 0 (dst_src 0 c) _ rfl) $$ [HO Ht0 Hf0 Hs0]
  · isplitr; · iexact HR
    isplitl [HO]; · iexact HO
    isplitl [Ht0]; · iexact Ht0
    isplitl [Hf0]; · iexact Hf0
    iexact Hs0
  iintro HO
  iapply (wait_bar m ρ K c (sendDebts c) (mayWait_bar c) rfl) $$ [HO Hcr Hat]
  · isplitr; · iexact HR
    isplitr; · iexact Hlev
    isplitl [HO]; · iexact HO
    isplitl [Hcr]; · iexact Hcr
    iexact Hat
  iintro ⟨HO, Hz, Hp0, Hp1, Hp2⟩
  iapply (load_at c (Memref.whole cc0_stg0_0) _ (f := (xV m ρ c)) rfl) $$ Hx; iintro Hx
  iapply (load_at c (Memref.whole cc0_stg2_0) _ (f := (riV m ρ c)) rfl) $$ Hr; iintro Hr
  iapply (done_ret c)
  iapply Hk
  isplitl [Hx]; · iexact Hx
  isplitl [Hr]; · iexact Hr
  isplitl [HO]; · iexact HO
  isplitl [Hz]; · iexact Hz
  isplitl [Hp0]; · iexact Hp0
  isplitl [Hp1]; · iexact Hp1
  iexact Hp2

end Parts

end Cert.Exchange

end
-- ==== Proof.PartsB.lean ====
/- The pieces of the kernel's body that compute and send the three chunks of the other devices. -/
module

public import proofs.«01_k».proof.Proof.PartsA

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Parts

variable (K : Dev nD × Ci → ℕ) (c : Dev nD)

/-- The first chunk's codes and scales. -/
theorem part4 (a b : BitVec 32) (Q : PUnit → sProp 𝕄) :
    iprop((table m ρ c ∗ free (F := F) c (cOut 0) ∗ free (F := F) c (sOut 0))
        ∗ ((table m ρ c ∗ filled m ρ c 0) -∗ Q ⟨⟩))
      ⊢ WP c (atBufs (k0_part4_skel (F := F)) c a b (k0_pay6 (xRows m ρ c 0)) (k0_pay7 (F := F) (riRows m ρ c 0)) (k0_pay8 (base c) (xRows m ρ c 0) (riRows m ρ c 0)) (k0_pay9 (base c) (xRows m ρ c 0) (riRows m ρ c 0)) (k0_pay10 (base c) (xRows m ρ c 0) (riRows m ρ c 0)) (k0_pay11 (base c))) Q := by
  unfold atBufs k0_part4_skel table
  simp only [Prog.lift, Prog.bind_op, Prog.bind_ret, Prog.pure_eq_ret, Prog.bind_assoc]
  unfold filled
  iintro ⟨⟨⟨Hx, Hr, Hc, Hw⟩, Ho, Hs⟩, Hk⟩
  iapply (load_at c (Memref.whole cc0_scratch1) _ (f := (ewV m ρ c)) (Memref.readAt_unit_zero (Elt F) cc0_scratch1 hz2 _ _)) $$ Hw; iintro Hw
  iapply (load_free c (Memref.whole cc0_scratch2) (rC 0) (hr := fun _ => rfl)) $$ Ho; iintro %_ Ho
  iapply (store_slot c (Memref.whole cc0_scratch2) (rC 0) (hr := fun _ => rfl) (codes_eq0 (base c) (xRows m ρ c 0) (riRows m ρ c 0) (ewV m ρ c))) $$ Ho; iintro Ho
  iapply (load_at c (Memref.whole cc0_scratch0) _ (f := (coV m ρ c)) rfl) $$ Hc; iintro Hc
  iapply (load_free c (Memref.whole cc0_scratch4) (rS 0) (hr := fun _ => rfl)) $$ Hs; iintro %_ Hs
  iapply (store_slot c (Memref.whole cc0_scratch4) (rS 0) (hr := fun _ => rfl) (scales_eq0 (base c) (xRows m ρ c 0) (riRows m ρ c 0) (ewV m ρ c) (coRows m ρ c 0))) $$ Hs; iintro Hs
  iapply (done_ret c)
  iapply Hk
  isplitl [Hx Hr Hc Hw]
  · isplitl [Hx]; · iexact Hx
    isplitl [Hr]; · iexact Hr
    isplitl [Hc]; · iexact Hc
    iexact Hw
  isplitl [Ho]; · iexact Ho
  iexact Hs

/-- The first chunk on its way; the second chunk's tokens and routes. -/
theorem part5 (a : BitVec 32) (Q : (Σ' (v154 : BitVec 32) (v155 : BitVec 32) (v159 : FVec F S512x512 .bf16) (v162 : IVec S512x1 32) (v169 : FVec F S512x512 .bf16) (cst_96 : F .bf16), IVec S512x1 1) → sProp 𝕄) :
    iprop((records m ρ K ∗ table m ρ c ∗ filled m ρ c 0 ∗ readyPay c 0 ∗ sendToks c 0 ∗ ow c ((dCell (dst 0 c) 0 1, NC) :: (dCell (dst 0 c) 0 3, NS) :: (dCell (dst 1 c) 1 1, NC) :: (dCell (dst 1 c) 1 3, NS) :: (dCell (dst 2 c) 2 1, NC) :: (dCell (dst 2 c) 2 3, NS) :: []))
        ∗ ((table m ρ c ∗ cred (tallyAt (dCell c 0 0) () (NK 0)) ∗ cred (tallyAt (dCell c 0 2) () (NK 2)) ∗ ow c ((dCell (dst 1 c) 1 1, NC) :: (dCell (dst 1 c) 1 3, NS) :: (dCell (dst 2 c) 2 1, NC) :: (dCell (dst 2 c) 2 3, NS) :: []))
            -∗ Q ⟨Scalar.remsi (Scalar.addi (num c) 2#32) 4#32, Scalar.muli (Scalar.remsi (Scalar.addi (num c) 2#32) 4#32) 512#32,
                k0_pay16 (xRows m ρ c 1), k0_pay17 (F := F) (riRows m ρ c 1), k0_pay18 (base c) (xRows m ρ c 1) (riRows m ρ c 1), Scalar.ofBits .bf16 0x0000#16, k0_pay19 (F := F) (base c) (riRows m ρ c 1)⟩))
      ⊢ WP c (atBufs (k0_part5_skel (F := F)) c (num c) (base c) a) Q := by
  unfold atBufs k0_part5_skel table
  simp only [Prog.lift, Prog.bind_op, Prog.bind_ret, Prog.pure_eq_ret, Prog.bind_assoc]
  iintro ⟨⟨#HR, ⟨Hx, Hr, Hc, Hw⟩, Hf, Hp, Ht, HO⟩, Hk⟩
  iapply (send_both m ρ K c 0 _ _ (dev4_eq c) (dev5_eq c) ((dCell (dst 1 c) 1 1, NC) :: (dCell (dst 1 c) 1 3, NS) :: (dCell (dst 2 c) 2 1, NC) :: (dCell (dst 2 c) 2 3, NS) :: [])) $$ [Hf Hp Ht HO]
  · isplitr; · iexact HR
    isplitl [Hf]; · iexact Hf
    isplitl [Hp]; · iexact Hp
    isplitl [Ht]; · iexact Ht
    iexact HO
  iintro ⟨Hc0, Hc2, HO⟩
  iapply (load_at c (Memref.whole cc0_stg0_0) _ (f := (xV m ρ c)) rfl) $$ Hx; iintro Hx
  iapply (load_at c (Memref.whole cc0_stg2_0) _ (f := (riV m ρ c)) rfl) $$ Hr; iintro Hr
  iapply (done_ret c)
  iapply Hk
  isplitl [Hx Hr Hc Hw]
  · isplitl [Hx]; · iexact Hx
    isplitl [Hr]; · iexact Hr
    isplitl [Hc]; · iexact Hc
    iexact Hw
  isplitl [Hc0]; · iexact Hc0
  isplitl [Hc2]; · iexact Hc2
  iexact HO

/-- The second chunk's codes, and its scales computed. -/
theorem part6 (a : BitVec 32) (Q : FVec F S512x1 .f32 → sProp 𝕄) :
    iprop((table m ρ c ∗ free (F := F) c (cOut 1) ∗ free (F := F) c (sOut 1))
        ∗ ((table m ρ c ∗ holds c (cOut 1) (codesV m ρ c 1) ∗ free (F := F) c (sOut 1))
            -∗ Q (k0_pay23 (base c) (k0_pay16 (xRows m ρ c 1)) (k0_pay17 (F := F) (riRows m ρ c 1)) (k0_pay18 (base c) (xRows m ρ c 1) (riRows m ρ c 1)) (Scalar.ofBits .bf16 0x0000#16) (k0_pay19 (F := F) (base c) (riRows m ρ c 1)) (ewV m ρ c) (coRows m ρ c 1))))
      ⊢ WP c (atBufs (k0_part6_skel (F := F)) c (base c) a (k0_pay16 (xRows m ρ c 1)) (k0_pay17 (F := F) (riRows m ρ c 1)) (k0_pay18 (base c) (xRows m ρ c 1) (riRows m ρ c 1)) (Scalar.ofBits .bf16 0x0000#16) (k0_pay19 (F := F) (base c) (riRows m ρ c 1))) Q := by
  unfold atBufs k0_part6_skel table
  simp only [Prog.lift, Prog.bind_op, Prog.bind_ret, Prog.pure_eq_ret, Prog.bind_assoc]
  iintro ⟨⟨⟨Hx, Hr, Hc, Hw⟩, Ho, Hs⟩, Hk⟩
  iapply (load_at c (Memref.whole cc0_scratch1) _ (f := (ewV m ρ c)) (Memref.readAt_unit_zero (Elt F) cc0_scratch1 hz2 _ _)) $$ Hw; iintro Hw
  iapply (load_free c (Memref.whole cc0_scratch2) (rC 1) (hr := fun _ => rfl)) $$ Ho; iintro %_ Ho
  iapply (store_slot c (Memref.whole cc0_scratch2) (rC 1) (hr := fun _ => rfl) (codes_eq1 (base c) (xRows m ρ c 1) (riRows m ρ c 1) (ewV m ρ c))) $$ Ho; iintro Ho
  iapply (load_at c (Memref.whole cc0_scratch0) _ (f := (coV m ρ c)) rfl) $$ Hc; iintro Hc
  iapply (load_free c (Memref.whole cc0_scratch4) (rS 1) (hr := fun _ => rfl)) $$ Hs; iintro %_ Hs
  iapply (done_ret c)
  iapply Hk
  isplitl [Hx Hr Hc Hw]
  · isplitl [Hx]; · iexact Hx
    isplitl [Hr]; · iexact Hr
    isplitl [Hc]; · iexact Hc
    iexact Hw
  isplitl [Ho]; · iexact Ho
  iexact Hs

/-- The second chunk on its way; the third chunk's tokens and routes. -/
theorem part7 (a : BitVec 32) (Q : (Σ' (v237 : BitVec 32) (v238 : BitVec 32) (v242 : FVec F S512x512 .bf16), IVec S512x1 32) → sProp 𝕄) :
    iprop((records m ρ K ∗ table m ρ c ∗ holds c (cOut 1) (codesV m ρ c 1) ∗ free (F := F) c (sOut 1) ∗ readyPay c 1 ∗ sendToks c 1 ∗ ow c ((dCell (dst 1 c) 1 1, NC) :: (dCell (dst 1 c) 1 3, NS) :: (dCell (dst 2 c) 2 1, NC) :: (dCell (dst 2 c) 2 3, NS) :: []))
        ∗ ((table m ρ c ∗ cred (tallyAt (dCell c 1 0) () (NK 0)) ∗ cred (tallyAt (dCell c 1 2) () (NK 2)) ∗ ow c ((dCell (dst 2 c) 2 1, NC) :: (dCell (dst 2 c) 2 3, NS) :: []))
            -∗ Q ⟨Scalar.remsi (Scalar.addi (num c) 3#32) 4#32, Scalar.muli (Scalar.remsi (Scalar.addi (num c) 3#32) 4#32) 512#32,
                k0_pay25 (xRows m ρ c 2), k0_pay26 (F := F) (riRows m ρ c 2)⟩))
      ⊢ WP c (atBufs (k0_part7_skel (F := F)) c (num c) a (k0_pay23 (base c) (k0_pay16 (xRows m ρ c 1)) (k0_pay17 (F := F) (riRows m ρ c 1)) (k0_pay18 (base c) (xRows m ρ c 1) (riRows m ρ c 1)) (Scalar.ofBits .bf16 0x0000#16) (k0_pay19 (F := F) (base c) (riRows m ρ c 1)) (ewV m ρ c) (coRows m ρ c 1))) Q := by
  unfold atBufs k0_part7_skel table
  simp only [Prog.lift, Prog.bind_op, Prog.bind_ret, Prog.pure_eq_ret, Prog.bind_assoc]
  iintro ⟨⟨#HR, ⟨Hx, Hr, Hc, Hw⟩, Ho, Hs, Hp, Ht, HO⟩, Hk⟩
  iapply (store_slot c (Memref.whole cc0_scratch4) (rS 1) (hr := fun _ => rfl) (scales_eq1 (base c) (xRows m ρ c 1) (riRows m ρ c 1) (ewV m ρ c) (coRows m ρ c 1))) $$ Hs; iintro Hs
  iapply (send_both m ρ K c 1 _ _ (dev6_eq c) (dev7_eq c) ((dCell (dst 2 c) 2 1, NC) :: (dCell (dst 2 c) 2 3, NS) :: [])) $$ [Ho Hs Hp Ht HO]
  · isplitr; · iexact HR
    isplitl [Ho Hs]
    · unfold filled
      isplitl [Ho]; · iexact Ho
      iexact Hs
    isplitl [Hp]; · iexact Hp
    isplitl [Ht]; · iexact Ht
    iexact HO
  iintro ⟨Hc0, Hc2, HO⟩
  iapply (load_at c (Memref.whole cc0_stg0_0) _ (f := (xV m ρ c)) rfl) $$ Hx; iintro Hx
  iapply (load_at c (Memref.whole cc0_stg2_0) _ (f := (riV m ρ c)) rfl) $$ Hr; iintro Hr
  iapply (done_ret c)
  iapply Hk
  isplitl [Hx Hr Hc Hw]
  · isplitl [Hx]; · iexact Hx
    isplitl [Hr]; · iexact Hr
    isplitl [Hc]; · iexact Hc
    iexact Hw
  isplitl [Hc0]; · iexact Hc0
  isplitl [Hc2]; · iexact Hc2
  iexact HO

/-- The third chunk's codes and scales computed. -/
theorem part8 (Q : (Σ' (v281 : FVec F S512x1 .f32) (v287 : IVec S512x1024 8), Vec F S1x512x1024 .i8) → sProp 𝕄) :
    iprop((table m ρ c ∗ free (F := F) c (cOut 2))
        ∗ (∀ v, (table m ρ c ∗ free (F := F) c (cOut 2))
            -∗ Q ⟨k0_pay28 (base c) (k0_pay25 (xRows m ρ c 2)) (k0_pay26 (F := F) (riRows m ρ c 2)) (ewV m ρ c), k0_pay29 (base c) (k0_pay25 (xRows m ρ c 2)) (k0_pay26 (F := F) (riRows m ρ c 2)) (ewV m ρ c), v⟩))
      ⊢ WP c (atBufs (k0_part8_skel (F := F)) (base c) (k0_pay25 (xRows m ρ c 2)) (k0_pay26 (F := F) (riRows m ρ c 2))) Q := by
  unfold atBufs k0_part8_skel table
  simp only [Prog.lift, Prog.bind_op, Prog.bind_ret, Prog.pure_eq_ret, Prog.bind_assoc]
  iintro ⟨⟨⟨Hx, Hr, Hc, Hw⟩, Ho⟩, Hk⟩
  iapply (load_at c (Memref.whole cc0_scratch1) _ (f := (ewV m ρ c)) (Memref.readAt_unit_zero (Elt F) cc0_scratch1 hz2 _ _)) $$ Hw; iintro Hw
  iapply (load_free c (Memref.whole cc0_scratch2) (rC 2) (hr := fun _ => rfl)) $$ Ho; iintro %v Ho
  iapply (done_ret c)
  iapply Hk
  isplitl [Hx Hr Hc Hw]
  · isplitl [Hx]; · iexact Hx
    isplitl [Hr]; · iexact Hr
    isplitl [Hc]; · iexact Hc
    iexact Hw
  iexact Ho

/-- The third chunk on its way. -/
theorem part9 (a b : BitVec 32) (v : Vec F S1x512x1024 .i8) (Q : BitVec 32 → sProp 𝕄) :
    iprop((records m ρ K ∗ table m ρ c ∗ free (F := F) c (cOut 2) ∗ free (F := F) c (sOut 2) ∗ readyPay c 2 ∗ sendToks c 2 ∗ ow c ((dCell (dst 2 c) 2 1, NC) :: (dCell (dst 2 c) 2 3, NS) :: []))
        ∗ ((table m ρ c ∗ cred (tallyAt (dCell c 2 0) () (NK 0)) ∗ cred (tallyAt (dCell c 2 2) () (NK 2)) ∗ ow c []) -∗ Q 512#32))
      ⊢ WP c (atBufs (k0_part9_skel (F := F)) c a b (k0_pay28 (base c) (k0_pay25 (xRows m ρ c 2)) (k0_pay26 (F := F) (riRows m ρ c 2)) (ewV m ρ c)) (k0_pay29 (base c) (k0_pay25 (xRows m ρ c 2)) (k0_pay26 (F := F) (riRows m ρ c 2)) (ewV m ρ c)) v) Q := by
  unfold atBufs k0_part9_skel table
  simp only [Prog.lift, Prog.bind_op, Prog.bind_ret, Prog.pure_eq_ret, Prog.bind_assoc]
  iintro ⟨⟨#HR, ⟨Hx, Hr, Hc, Hw⟩, Ho, Hs, Hp, Ht, HO⟩, Hk⟩
  iapply (store_slot c (Memref.whole cc0_scratch2) (rC 2) (hr := fun _ => rfl) (X := codesV m ρ c 2) rfl) $$ Ho; iintro Ho
  iapply (load_at c (Memref.whole cc0_scratch0) _ (f := (coV m ρ c)) rfl) $$ Hc; iintro Hc
  iapply (load_free c (Memref.whole cc0_scratch4) (rS 2) (hr := fun _ => rfl)) $$ Hs; iintro %_ Hs
  iapply (store_slot c (Memref.whole cc0_scratch4) (rS 2) (hr := fun _ => rfl) (X := scalesV m ρ c 2) rfl) $$ Hs; iintro Hs
  iapply (send_both m ρ K c 2 _ _ (dev8_eq c) (dev9_eq c) []) $$ [Ho Hs Hp Ht HO]
  · isplitr; · iexact HR
    isplitl [Ho Hs]
    · unfold filled
      isplitl [Ho]; · iexact Ho
      iexact Hs
    isplitl [Hp]; · iexact Hp
    isplitl [Ht]; · iexact Ht
    iexact HO
  iintro ⟨Hc0, Hc2, HO⟩
  iapply (done_ret c)
  iapply Hk
  isplitl [Hx Hr Hc Hw]
  · isplitl [Hx]; · iexact Hx
    isplitl [Hr]; · iexact Hr
    isplitl [Hc]; · iexact Hc
    iexact Hw
  isplitl [Hc0]; · iexact Hc0
  isplitl [Hc2]; · iexact Hc2
  iexact HO

/-- The device's own chunk, weighted. -/
abbrev own0 : FVec F S512x1024 .f32 := k0_pay32 (base c) (xOwn m ρ c) (riOwn m ρ c) (ewV m ρ c) (coOwn m ρ c)

/-- The device's own chunk. -/
theorem part10 (a : BitVec 32) (Q : (Σ' (v361 : FVec F S512x1024 .f32), BitVec 32) → sProp 𝕄) :
    iprop(table m ρ c ∗ (table m ρ c -∗ Q ⟨own0 m ρ c, Scalar.muli (num c) 512#32⟩))
      ⊢ WP c (atBufs (k0_part10_skel (F := F)) c (num c) (base c) a) Q := by
  unfold atBufs k0_part10_skel table
  simp only [Prog.lift, Prog.bind_op, Prog.bind_ret, Prog.pure_eq_ret, Prog.bind_assoc]
  iintro ⟨⟨Hx, Hr, Hc, Hw⟩, Hk⟩
  iapply (load_at c (Memref.whole cc0_stg0_0) _ (f := (xV m ρ c)) rfl) $$ Hx; iintro Hx
  iapply (load_at c (Memref.whole cc0_stg2_0) _ (f := (riV m ρ c)) rfl) $$ Hr; iintro Hr
  iapply (load_at c (Memref.whole cc0_scratch1) _ (f := (ewV m ρ c)) (Memref.readAt_unit_zero (Elt F) cc0_scratch1 hz2 _ _)) $$ Hw; iintro Hw
  iapply (load_at c (Memref.whole cc0_scratch0) _ (f := (coV m ρ c)) rfl) $$ Hc; iintro Hc
  iapply (done_ret c)
  iapply Hk
  isplitl [Hx]; · iexact Hx
  isplitl [Hr]; · iexact Hr
  isplitl [Hc]; · iexact Hc
  iexact Hw

end Parts

end Cert.Exchange

end
-- ==== Proof.PartsC.lean ====
/- The pieces of the kernel's body that take in the three others' chunks and wait for its own to have left. -/
module

public import proofs.«01_k».proof.Proof.PartsA

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Parts

variable (K : Dev nD × Ci → ℕ) (c : Dev nD)

/-- A slot received and read. -/
def got (j : Fin 3) : sProp 𝕄 :=
  iprop(semVal (dCell c j 1) 0 ∗ semVal (dCell c j 3) 0 ∗ free (F := F) c (cIn j) ∗ free (F := F) c (sIn j))

/-- A slot that has left. -/
def left (j : Fin 3) : sProp 𝕄 :=
  iprop(semVal (dCell c j 0) 0 ∗ semVal (dCell c j 2) 0 ∗ free (F := F) c (cOut j) ∗ free (F := F) c (sOut j))

/-- The waits for a slot's codes and scales, and their loads. -/
theorem recv_slot (j : Fin 3) {α : Type} {s₁ s₂ s₃ s₄ : Shape} {e₁ e₂ e₃ e₄ : EltTy} {sp₁ sp₂ sp₃ sp₄ : Space}
    {a : Memref sig .tc sp₁ s₁ e₁} {b : Memref sig .tc sp₂ s₂ e₂} {ha : a.view.WordExact} {hb : b.view.WordExact}
    {a' : Memref sig .tc sp₃ s₃ e₃} {b' : Memref sig .tc sp₄ s₄ e₄} {ha' : a'.view.WordExact} {hb' : b'.view.WordExact}
    (hN : b.view.dmaCredit = NC) (hN' : b'.view.dmaCredit = NS) {hl hl'}
    {k : Vec F S1x512x1024 .i8 → Vec F S1x512x1 .f32 → Prog (TpuEff nD τ sig (Elt F) Λ₀ .tc) α} {Q : α → sProp 𝕄} :
    iprop(records m ρ K ∗ ow c [] ∗ awaits c j 1 ∗ awaits c j 3)
      ⊢ iprop(((ow c [] ∗ got c j) -∗ WP c (k (codesV m ρ (src j c) j) (scalesV m ρ (src j c) j)) Q)
          -∗ WP c (.op (.waitDma2 (dsem j 1) a b ha hb) fun _ => .op (.waitDma2 (dsem j 3) a' b' ha' hb') fun _ =>
              .op (.load (cs := .vmem) (Memref.whole cc0_scratch3) (rC j).toLoadRect hl) fun v =>
              .op (.load (cs := .vmem) (Memref.whole cc0_scratch5) (rS j).toLoadRect hl') fun w => k v w) Q) := by
  iintro ⟨#HR, HO, H0, H1⟩ Hk
  iapply (wait_both m ρ K c j 1 3 hN hN') $$ [HO H0 H1]
  · isplitr; · iexact HR
    isplitl [HO]; · iexact HO
    isplitl [H0]; · iexact H0
    iexact H1
  iintro ⟨HO, Hz0, Hz1, Hp0, Hp1⟩
  ihave Hc := (Entails.of_eq (show xferPay m ρ c j 1 = holds c (cIn j) (codesV m ρ (src j c) j) from rfl)) $$ Hp0
  ihave Hs := (Entails.of_eq (show xferPay m ρ c j 3 = holds c (sIn j) (scalesV m ρ (src j c) j) from rfl)) $$ Hp1
  iapply (load_slot c (Memref.whole cc0_scratch3) (rC j) (hr := fun _ => rfl)) $$ Hc; iintro Hc
  iapply (load_slot c (Memref.whole cc0_scratch5) (rS j) (hr := fun _ => rfl)) $$ Hs; iintro Hs
  iapply Hk
  unfold got
  isplitl [HO]; · iexact HO
  isplitl [Hz0]; · iexact Hz0
  isplitl [Hz1]; · iexact Hz1
  isplitl [Hc]; · iapply (free_of_holds c); iexact Hc
  iapply (free_of_holds c); iexact Hs

/-- The waits for a slot to have left. -/
theorem left_slot (j : Fin 3) {α : Type} {s₁ s₂ s₃ s₄ : Shape} {e₁ e₂ e₃ e₄ : EltTy} {sp₁ sp₂ sp₃ sp₄ : Space}
    {a : Memref sig .tc sp₁ s₁ e₁} {b : Memref sig .tc sp₂ s₂ e₂} {ha : a.view.WordExact} {hb : b.view.WordExact}
    {a' : Memref sig .tc sp₃ s₃ e₃} {b' : Memref sig .tc sp₄ s₄ e₄} {ha' : a'.view.WordExact} {hb' : b'.view.WordExact}
    (hN : b.view.dmaCredit = NC) (hN' : b'.view.dmaCredit = NS)
    {k : PUnit → Prog (TpuEff nD τ sig (Elt F) Λ₀ .tc) α} {Q : α → sProp 𝕄} :
    iprop(records m ρ K ∗ ow c [] ∗ awaits c j 0 ∗ awaits c j 2)
      ⊢ iprop(((ow c [] ∗ left c j) -∗ WP c (k ⟨⟩) Q)
          -∗ WP c (.op (.waitDma2 (dsem j 0) a b ha hb) fun _ => .op (.waitDma2 (dsem j 2) a' b' ha' hb') k) Q) := by
  iintro ⟨#HR, HO, H0, H1⟩ Hk
  iapply (wait_both m ρ K c j 0 2 hN hN') $$ [HO H0 H1]
  · isplitr; · iexact HR
    isplitl [HO]; · iexact HO
    isplitl [H0]; · iexact H0
    iexact H1
  iintro ⟨HO, Hz0, Hz1, Hp0, Hp1⟩
  iapply Hk
  unfold left
  isplitl [HO]; · iexact HO
  isplitl [Hz0]; · iexact Hz0
  isplitl [Hz1]; · iexact Hz1
  isplitl [Hp0]; · iapply (Entails.of_eq (show xferPay m ρ c j 0 = free (F := F) c (cOut j) from rfl)); iexact Hp0
  iapply (Entails.of_eq (show xferPay m ρ c j 2 = free (F := F) c (sOut j) from rfl)); iexact Hp1

/-- The device's own chunk with the shared product, then with two of the others' chunks. -/
abbrev own1 : FVec F S512x1024 .f32 :=
  k0_pay33 (k0_pay32 (base c) (xOwn m ρ c) (riOwn m ρ c) (ewV m ρ c) (coOwn m ρ c)) (xOwn m ρ c) (shV m ρ c)
abbrev own2 : FVec F S512x1024 .f32 :=
  k0_pay36 (own1 m ρ c) (k0_pay34 (codesV m ρ (src 0 c) 0)) (k0_pay35 (scalesV m ρ (src 0 c) 0)) (codesV m ρ (src 1 c) 1) (scalesV m ρ (src 1 c) 1)

/-- The shared product, and the first chunk received. -/
theorem part11 (a b : BitVec 32) (Q : (Σ' (v369 : FVec F S512x1024 .f32) (v388 : FVec F S512x1024 .f32), FVec F S512x1 .f32) → sProp 𝕄) :
    iprop((records m ρ K ∗ pts c cc0_stg0_0 (xV m ρ c) ∗ pts c cc0_stg4_0 (shV m ρ c) ∗ ow c [] ∗ awaits c 0 1 ∗ awaits c 0 3)
        ∗ ((pts c cc0_stg0_0 (xV m ρ c) ∗ pts c cc0_stg4_0 (shV m ρ c) ∗ ow c [] ∗ got c 0)
            -∗ Q ⟨own1 m ρ c, k0_pay34 (codesV m ρ (src 0 c) 0), k0_pay35 (scalesV m ρ (src 0 c) 0)⟩))
      ⊢ WP c (atBufs (k0_part11_skel (F := F)) c a (k0_pay32 (base c) (xOwn m ρ c) (riOwn m ρ c) (ewV m ρ c) (coOwn m ρ c)) b) Q := by
  unfold atBufs k0_part11_skel
  simp only [Prog.lift, Prog.bind_op, Prog.bind_ret, Prog.pure_eq_ret, Prog.bind_assoc]
  iintro ⟨⟨#HR, Hx, Hs, HO, H1, H3⟩, Hk⟩
  iapply (load_at c (Memref.whole cc0_stg0_0) _ (f := (xV m ρ c)) rfl) $$ Hx; iintro Hx
  iapply (load_at c (Memref.whole cc0_stg4_0) _ (f := (shV m ρ c)) (Memref.readAt_unit_zero (Elt F) cc0_stg4_0 hz2 _ _)) $$ Hs; iintro Hs
  iapply (recv_slot m ρ K c 0 (by rfl) (by rfl)) $$ [HO H1 H3]
  · isplitr; · iexact HR
    isplitl [HO]; · iexact HO
    isplitl [H1]; · iexact H1
    iexact H3
  iintro ⟨HO, Hg⟩
  iapply (done_ret c)
  iapply Hk
  isplitl [Hx]; · iexact Hx
  isplitl [Hs]; · iexact Hs
  isplitl [HO]; · iexact HO
  iexact Hg

/-- The second chunk received. -/
theorem part12 (a : BitVec 32) (Q : (Σ' (v417 : FVec F S512x1024 .f32), BitVec 32) → sProp 𝕄) :
    iprop((records m ρ K ∗ ow c [] ∗ awaits c 1 1 ∗ awaits c 1 3)
        ∗ ((ow c [] ∗ got c 1) -∗ Q ⟨own2 m ρ c, 1#32⟩))
      ⊢ WP c (atBufs (k0_part12_skel (F := F)) a (own1 m ρ c) (k0_pay34 (codesV m ρ (src 0 c) 0)) (k0_pay35 (scalesV m ρ (src 0 c) 0))) Q := by
  unfold atBufs k0_part12_skel
  simp only [Prog.lift, Prog.bind_op, Prog.bind_ret, Prog.pure_eq_ret, Prog.bind_assoc]
  iintro ⟨⟨#HR, HO, H1, H3⟩, Hk⟩
  iapply (recv_slot m ρ K c 1 (by rfl) (by rfl)) $$ [HO H1 H3]
  · isplitr; · iexact HR
    isplitl [HO]; · iexact HO
    isplitl [H1]; · iexact H1
    iexact H3
  iintro ⟨HO, Hg⟩
  iapply (done_ret c)
  iapply Hk
  isplitl [HO]; · iexact HO
  iexact Hg

/-- The third chunk received; the result stored. -/
theorem part13 (f : S512x1024.Idx → Elt F .f32) (a b : BitVec 32) (Q : PUnit → sProp 𝕄) :
    iprop((records m ρ K ∗ pts c cc0_stg5_0 f ∗ ow c [] ∗ awaits c 2 1 ∗ awaits c 2 3)
        ∗ ((pts c cc0_stg5_0 (outV m ρ c) ∗ ow c [] ∗ got c 2) -∗ Q ⟨⟩))
      ⊢ WP c (atBufs (k0_part13_skel (F := F)) a (own2 m ρ c) b) Q := by
  unfold atBufs k0_part13_skel
  simp only [Prog.lift, Prog.bind_op, Prog.bind_ret, Prog.pure_eq_ret, Prog.bind_assoc]
  iintro ⟨⟨#HR, Ho, HO, H1, H3⟩, Hk⟩
  iapply (recv_slot m ρ K c 2 (by rfl) (by rfl)) $$ [HO H1 H3]
  · isplitr; · iexact HR
    isplitl [HO]; · iexact HO
    isplitl [H1]; · iexact H1
    iexact H3
  iintro ⟨HO, Hg⟩
  iapply (load_at c (Memref.whole cc0_stg5_0) _ (f := f) rfl) $$ Ho; iintro Ho
  iapply (store_at c (Memref.whole cc0_stg5_0) _ (f := f) (g := outV m ρ c) (Memref.write_access_unit_zero_univ (Elt F) cc0_stg5_0 hz2 _ _ _)) $$ Ho; iintro Ho
  iapply (done_ret c)
  iapply Hk
  isplitl [Ho]; · iexact Ho
  isplitl [HO]; · iexact HO
  iexact Hg

/-- The first two chunks have left. -/
theorem part14 (Q : PUnit → sProp 𝕄) :
    iprop((records m ρ K ∗ ow c [] ∗ awaits c 0 0 ∗ awaits c 0 2 ∗ awaits c 1 0 ∗ awaits c 1 2)
        ∗ ((ow c [] ∗ left c 0 ∗ left c 1) -∗ Q ⟨⟩))
      ⊢ WP c (atBufs (k0_part14_skel (F := F))) Q := by
  unfold atBufs k0_part14_skel
  simp only [Prog.lift, Prog.bind_op, Prog.bind_ret, Prog.pure_eq_ret, Prog.bind_assoc]
  iintro ⟨⟨#HR, HO, H00, H02, H10, H12⟩, Hk⟩
  iapply (left_slot m ρ K c 0 (by rfl) (by rfl)) $$ [HO H00 H02]
  · isplitr; · iexact HR
    isplitl [HO]; · iexact HO
    isplitl [H00]; · iexact H00
    iexact H02
  iintro ⟨HO, Hg0⟩
  iapply (left_slot m ρ K c 1 (by rfl) (by rfl)) $$ [HO H10 H12]
  · isplitr; · iexact HR
    isplitl [HO]; · iexact HO
    isplitl [H10]; · iexact H10
    iexact H12
  iintro ⟨HO, Hg1⟩
  iapply (done_ret c)
  iapply Hk
  isplitl [HO]; · iexact HO
  isplitl [Hg0]; · iexact Hg0
  iexact Hg1

end Parts

end Cert.Exchange

end
-- ==== Proof.Device.lean ====
/- A device's whole program: from the slots, tokens and credits it starts with to the result stored and everything handed back. -/
module

public import proofs.«01_k».proof.Proof.PartsB
public import proofs.«01_k».proof.Proof.PartsC

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

section Device

variable (K : Dev nD × Ci → ℕ) (c : Dev nD)

theorem bind_wp {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

theorem table_intro : iprop(pts c cc0_stg0_0 (xV m ρ c) ∗ pts c cc0_stg2_0 (riV m ρ c) ∗ pts c cc0_scratch0 (coV m ρ c) ∗ pts c cc0_scratch1 (ewV m ρ c))
    ⊢ table m ρ c := Entails.of_eq rfl
theorem table_elim : table m ρ c ⊢ iprop(pts c cc0_stg0_0 (xV m ρ c) ∗ pts c cc0_stg2_0 (riV m ρ c) ∗ pts c cc0_scratch0 (coV m ρ c) ∗ pts c cc0_scratch1 (ewV m ρ c)) :=
  Entails.of_eq rfl

/-- A device's four slots of number `j`. -/
def slots (j : Fin 3) : sProp 𝕄 :=
  iprop(free (F := F) c (cOut j) ∗ free (F := F) c (sOut j) ∗ free (F := F) c (cIn j) ∗ free (F := F) c (sIn j))

/-- A device's rights and positions for slot `j`: to signal the device that sends into the slot, to make the slot's transfers,
    to wait for the slot's four semaphores. -/
def lane (j : Fin 3) : sProp 𝕄 :=
  iprop(dutyTok ER (barCell (src j c)) 0 j ∗ sendToks c j
    ∗ atPos ER (dCell c j 0) 0 ∅ 0 ∗ atPos ER (dCell c j 1) 0 ∅ 0 ∗ atPos ER (dCell c j 2) 0 ∅ 0 ∗ atPos ER (dCell c j 3) 0 ∅ 0)

/-- The credits of the transfers into slot `j`. -/
def due (j : Fin 3) : sProp 𝕄 := iprop(cred (tallyAt (dCell c j 1) () (NK 1)) ∗ cred (tallyAt (dCell c j 3) () (NK 3)))

/-- Slot `j` given back, its four counters at zero. -/
def back (j : Fin 3) : sProp 𝕄 := iprop(got (F := F) c j ∗ left (F := F) c j)

/-- The program's buffers and counters at its end. -/
def ends : sProp 𝕄 :=
  iprop(ow c [] ∗ pts c cc0_stg0_0 (xV m ρ c) ∗ pts c cc0_stg1_0 (rwV m ρ c) ∗ pts c cc0_stg2_0 (riV m ρ c) ∗ pts c cc0_stg3_0 (exV m ρ c)
    ∗ pts c cc0_stg4_0 (shV m ρ c) ∗ pts c cc0_stg5_0 (outV m ρ c) ∗ semVal (barCell c) 0
    ∗ (∃ f, pts c cc0_scratch0 f) ∗ (∃ f, pts c cc0_scratch1 f) ∗ back (F := F) c 0 ∗ back (F := F) c 1 ∗ back (F := F) c 2)

theorem awaits_intro (j : Fin 3) (k : Fin 4) :
    iprop(cred (tallyAt (dCell c j k) () (NK k)) ∗ atPos ER (dCell c j k) 0 ∅ 0) ⊢ awaits (F := F) c j k := Entails.of_eq rfl

/-- A device's program runs from its inputs, its slots and its rights to its result stored and all handed back. -/
theorem device_run (f0 : S2048x1.Idx → Elt F .f32) (f1 : S2048x1024.Idx → Elt F .bf16) (f5 : S512x1024.Idx → Elt F .f32) (Q : PUnit → sProp 𝕄) :
    iprop((records m ρ K ∗ levAts L lv ∗ (atPos ER (barCell c) 0 ∅ 0 ∗ cred (tallyAt (barCell c) () 3))
          ∗ (lane (F := F) c 0 ∗ lane (F := F) c 1 ∗ lane (F := F) c 2) ∗ (due (F := F) c 0 ∗ due (F := F) c 1 ∗ due (F := F) c 2)
          ∗ (slots (F := F) c 0 ∗ slots (F := F) c 1 ∗ slots (F := F) c 2) ∗ ow c (debts c)
          ∗ pts c cc0_scratch0 f0 ∗ pts c cc0_scratch1 f1
          ∗ pts c cc0_stg0_0 (xV m ρ c) ∗ pts c cc0_stg1_0 (rwV m ρ c) ∗ pts c cc0_stg2_0 (riV m ρ c) ∗ pts c cc0_stg3_0 (exV m ρ c)
          ∗ pts c cc0_stg4_0 (shV m ρ c) ∗ pts c cc0_stg5_0 f5)
        ∗ (ends m ρ c -∗ Q ⟨⟩))
      ⊢ WP c (atBufs (cc0_body (F := F))) Q := by
  unfold atBufs
  rw [cc0_body_eq_skeleton]
  unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold lane due slots
  iintro ⟨⟨#HR, #Hlev, ⟨Hab, Hcb⟩, ⟨⟨Hb0, Ht0, Ha00, Ha01, Ha02, Ha03⟩, ⟨Hb1, Ht1, Ha10, Ha11, Ha12, Ha13⟩, Hb2, Ht2, Ha20, Ha21, Ha22, Ha23⟩,
    ⟨⟨Hd01, Hd03⟩, ⟨Hd11, Hd13⟩, Hd21, Hd23⟩, ⟨⟨Co0, So0, Ci0, Si0⟩, ⟨Co1, So1, Ci1, Si1⟩, Co2, So2, Ci2, Si2⟩, HO, Hs0, Hs1, H0, H1, H2, H3, H4, H5⟩, Hk⟩
  iapply (bind_wp c)
  iapply (part1 m ρ c f0 _)
  isplitl [H0 H1 H2 H3 Hs0]
  · isplitl [H0]
    · iexact H0
    isplitl [H1]
    · iexact H1
    isplitl [H2]
    · iexact H2
    isplitl [H3]
    · iexact H3
    iexact Hs0
  iintro ⟨H0, H1, H2, H3, Hs0⟩
  iapply (bind_wp c)
  iapply (part2 m ρ K c f1 _ _)
  isplitl [H3 Hs1 HO Hb2 Ci2 Si2]
  · isplitr
    · iexact HR
    isplitl [H3]
    · iexact H3
    isplitl [Hs1]
    · iexact Hs1
    isplitl [HO]
    · iexact HO
    isplitl [Hb2]
    · iexact Hb2
    isplitl [Ci2]
    · iexact Ci2
    iexact Si2
  iintro ⟨H3, Hs1, HO⟩
  iapply (bind_wp c)
  iapply (part3 m ρ K c _)
  isplitl [H0 H2 HO Hb1 Ci1 Si1 Hb0 Ci0 Si0 Hcb Hab]
  · isplitr
    · iexact HR
    isplitr
    · iexact Hlev
    isplitl [H0]
    · iexact H0
    isplitl [H2]
    · iexact H2
    isplitl [HO]
    · iexact HO
    isplitl [Hb1 Ci1 Si1]
    · isplitl [Hb1]
      · iexact Hb1
      isplitl [Ci1]
      · iexact Ci1
      iexact Si1
    isplitl [Hb0 Ci0 Si0]
    · isplitl [Hb0]
      · iexact Hb0
      isplitl [Ci0]
      · iexact Ci0
      iexact Si0
    isplitl [Hcb]
    · iexact Hcb
    iexact Hab
  iintro ⟨H0, H2, HO, Hzb, Hr0, Hr1, Hr2⟩
  ihave HT := (table_intro m ρ c) $$ [H0 H2 Hs0 Hs1]
  · isplitl [H0]; · iexact H0
    isplitl [H2]; · iexact H2
    isplitl [Hs0]; · iexact Hs0
    iexact Hs1
  iapply (bind_wp c)
  iapply (part4 m ρ c _ _ _)
  isplitl [HT Co0 So0]
  · isplitl [HT]
    · iexact HT
    isplitl [Co0]
    · iexact Co0
    iexact So0
  iintro ⟨HT, Hf⟩
  iapply (bind_wp c)
  iapply (part5 m ρ K c _ _)
  isplitl [HT Hf Hr0 Ht0 HO]
  · isplitr
    · iexact HR
    isplitl [HT]
    · iexact HT
    isplitl [Hf]
    · iexact Hf
    isplitl [Hr0]
    · iexact Hr0
    isplitl [Ht0]
    · iexact Ht0
    iexact HO
  iintro ⟨HT, Hc00, Hc02, HO⟩
  iapply (bind_wp c)
  iapply (part6 m ρ c _ _)
  isplitl [HT Co1 So1]
  · isplitl [HT]
    · iexact HT
    isplitl [Co1]
    · iexact Co1
    iexact So1
  iintro ⟨HT, Hf, So1⟩
  iapply (bind_wp c)
  iapply (part7 m ρ K c _ _)
  isplitl [HT Hf So1 Hr1 Ht1 HO]
  · isplitr
    · iexact HR
    isplitl [HT]
    · iexact HT
    isplitl [Hf]
    · iexact Hf
    isplitl [So1]
    · iexact So1
    isplitl [Hr1]
    · iexact Hr1
    isplitl [Ht1]
    · iexact Ht1
    iexact HO
  iintro ⟨HT, Hc10, Hc12, HO⟩
  iapply (bind_wp c)
  iapply (part8 m ρ c _)
  isplitl [HT Co2]
  · isplitl [HT]
    · iexact HT
    iexact Co2
  iintro %v ⟨HT, Co2⟩
  iapply (bind_wp c)
  iapply (part9 m ρ K c _ _ v _)
  isplitl [HT Co2 So2 Hr2 Ht2 HO]
  · isplitr
    · iexact HR
    isplitl [HT]
    · iexact HT
    isplitl [Co2]
    · iexact Co2
    isplitl [So2]
    · iexact So2
    isplitl [Hr2]
    · iexact Hr2
    isplitl [Ht2]
    · iexact Ht2
    iexact HO
  iintro ⟨HT, Hc20, Hc22, HO⟩
  iapply (bind_wp c)
  iapply (part10 m ρ c _ _)
  isplitl [HT]
  · iexact HT
  iintro HT
  ihave HT := (table_elim m ρ c) $$ HT
  icases HT with ⟨H0, H2, Hs0, Hs1⟩
  ihave Hw01 := (awaits_intro c 0 1) $$ [Hd01 Ha01]
  · isplitl [Hd01]; · iexact Hd01
    iexact Ha01
  ihave Hw03 := (awaits_intro c 0 3) $$ [Hd03 Ha03]
  · isplitl [Hd03]; · iexact Hd03
    iexact Ha03
  ihave Hw11 := (awaits_intro c 1 1) $$ [Hd11 Ha11]
  · isplitl [Hd11]; · iexact Hd11
    iexact Ha11
  ihave Hw13 := (awaits_intro c 1 3) $$ [Hd13 Ha13]
  · isplitl [Hd13]; · iexact Hd13
    iexact Ha13
  ihave Hw21 := (awaits_intro c 2 1) $$ [Hd21 Ha21]
  · isplitl [Hd21]; · iexact Hd21
    iexact Ha21
  ihave Hw23 := (awaits_intro c 2 3) $$ [Hd23 Ha23]
  · isplitl [Hd23]; · iexact Hd23
    iexact Ha23
  iapply (bind_wp c)
  iapply (part11 m ρ K c _ _ _)
  isplitl [H0 H4 HO Hw01 Hw03]
  · isplitr
    · iexact HR
    isplitl [H0]
    · iexact H0
    isplitl [H4]
    · iexact H4
    isplitl [HO]
    · iexact HO
    isplitl [Hw01]
    · iexact Hw01
    iexact Hw03
  iintro ⟨H0, H4, HO, Hg0⟩
  iapply (bind_wp c)
  iapply (part12 m ρ K c _ _)
  isplitl [HO Hw11 Hw13]
  · isplitr
    · iexact HR
    isplitl [HO]
    · iexact HO
    isplitl [Hw11]
    · iexact Hw11
    iexact Hw13
  iintro ⟨HO, Hg1⟩
  iapply (bind_wp c)
  iapply (part13 m ρ K c f5 _ _ _)
  isplitl [H5 HO Hw21 Hw23]
  · isplitr
    · iexact HR
    isplitl [H5]
    · iexact H5
    isplitl [HO]
    · iexact HO
    isplitl [Hw21]
    · iexact Hw21
    iexact Hw23
  iintro ⟨H5, HO, Hg2⟩
  ihave Hw00 := (awaits_intro c 0 0) $$ [Hc00 Ha00]
  · isplitl [Hc00]; · iexact Hc00
    iexact Ha00
  ihave Hw02 := (awaits_intro c 0 2) $$ [Hc02 Ha02]
  · isplitl [Hc02]; · iexact Hc02
    iexact Ha02
  ihave Hw10 := (awaits_intro c 1 0) $$ [Hc10 Ha10]
  · isplitl [Hc10]; · iexact Hc10
    iexact Ha10
  ihave Hw12 := (awaits_intro c 1 2) $$ [Hc12 Ha12]
  · isplitl [Hc12]; · iexact Hc12
    iexact Ha12
  ihave Hw20 := (awaits_intro c 2 0) $$ [Hc20 Ha20]
  · isplitl [Hc20]; · iexact Hc20
    iexact Ha20
  ihave Hw22 := (awaits_intro c 2 2) $$ [Hc22 Ha22]
  · isplitl [Hc22]; · iexact Hc22
    iexact Ha22
  iapply (bind_wp c)
  iapply (part14 m ρ K c _)
  isplitl [HO Hw00 Hw02 Hw10 Hw12]
  · isplitr
    · iexact HR
    isplitl [HO]
    · iexact HO
    isplitl [Hw00]
    · iexact Hw00
    isplitl [Hw02]
    · iexact Hw02
    isplitl [Hw10]
    · iexact Hw10
    iexact Hw12
  iintro ⟨HO, Hl0, Hl1⟩
  simp only [Prog.lift, Prog.bind_op, Prog.bind_ret, Prog.pure_eq_ret, Prog.bind_assoc]
  iapply (left_slot m ρ K c 2 (by rfl) (by rfl)) $$ [HO Hw20 Hw22]
  · isplitr
    · iexact HR
    isplitl [HO]
    · iexact HO
    isplitl [Hw20]
    · iexact Hw20
    iexact Hw22
  iintro ⟨HO, Hl2⟩
  iapply (done_ret c)
  iapply Hk
  unfold ends
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [Hzb]; · iexact Hzb
  isplitl [Hs0]; · iexists _; iexact Hs0
  isplitl [Hs1]; · iexists _; iexact Hs1
  isplitl [Hg0 Hl0]
  · unfold back; isplitl [Hg0]; · iexact Hg0
    iexact Hl0
  isplitl [Hg1 Hl1]
  · unfold back; isplitl [Hg1]; · iexact Hg1
    iexact Hl1
  unfold back; isplitl [Hg2]; · iexact Hg2
  iexact Hl2

end Device

end Cert.Exchange

end
-- ==== Proof.Body.lean ====
/- What the pipeline asks of the body: the buffers' slots cut out and joined back, the proof data, and the obligation at the one grid point. -/
module

public import proofs.«01_k».proof.Proof.Device
public import proofs.«01_k».proof.Proof.Gen.KernelIdeal.Frame
public import Idealize.ShloMosaic.Lib.Ring.FamCut
public import Idealize.ShloMosaic.Lib.ViewIndex

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem fin3_eq (Φ : Fin 3 → sProp 𝕄) : bigSep Finset.univ Φ = iprop(Φ 0 ∗ Φ 1 ∗ Φ 2) := bigSep_univ_eq_bigSepL [0, 1, 2] (by decide) (by decide) Φ

/-! ## Cutting a buffer into its three slots -/

theorem apartC (i j : Fin 3) (h : i ≠ j) : Disjoint (rC i).set (rC j).set :=
  Rect.unit_disjoint (0 : Fin 3) (by
    have : i.val ≠ j.val := fun e => h (Fin.ext e)
    show i.val + 1 ≤ j.val ∨ j.val + 1 ≤ i.val
    omega)
theorem apartS (i j : Fin 3) (h : i ≠ j) : Disjoint (rS i).set (rS j).set :=
  Rect.unit_disjoint (0 : Fin 3) (by
    have : i.val ≠ j.val := fun e => h (Fin.ext e)
    show i.val + 1 ≤ j.val ∨ j.val + 1 ≤ i.val
    omega)

section Cut

variable (c : Dev nD) (b : Ref sig .tc) (A : Fin 3 → Finset (Idx ((c : Thread nD τ).loc b)))

/-- What the three slots leave of a buffer. -/
def over : sProp 𝕄 := iprop(∃ f : Buf (Elt F) ((c : Thread nD τ).loc b), (c : Thread nD τ).loc b ↦[Ring.restOf A]{fullShare} f)

theorem cut (hd : ∀ i j, i ≠ j → Disjoint (A i) (A j)) :
    (iprop(∃ f : Buf (Elt F) ((c : Thread nD τ).loc b), pts c b f) : sProp 𝕄)
      ⊢ iprop(((∃ f : Buf (Elt F) ((c : Thread nD τ).loc b), (c : Thread nD τ).loc b ↦[A 0]{fullShare} f)
          ∗ (∃ f : Buf (Elt F) ((c : Thread nD τ).loc b), (c : Thread nD τ).loc b ↦[A 1]{fullShare} f)
          ∗ (∃ f : Buf (Elt F) ((c : Thread nD τ).loc b), (c : Thread nD τ).loc b ↦[A 2]{fullShare} f)) ∗ over (F := F) c b A) := by
  rw [← fin3_eq (fun j => iprop(∃ f : Buf (Elt F) ((c : Thread nD τ).loc b), (c : Thread nD τ).loc b ↦[A j]{fullShare} f))]
  exact Ring.fam_split_ex A hd

theorem join (hd : ∀ i j, i ≠ j → Disjoint (A i) (A j)) (f₀ : Buf (Elt F) ((c : Thread nD τ).loc b)) :
    iprop(((∃ f : Buf (Elt F) ((c : Thread nD τ).loc b), (c : Thread nD τ).loc b ↦[A 0]{fullShare} f)
          ∗ (∃ f : Buf (Elt F) ((c : Thread nD τ).loc b), (c : Thread nD τ).loc b ↦[A 1]{fullShare} f)
          ∗ (∃ f : Buf (Elt F) ((c : Thread nD τ).loc b), (c : Thread nD τ).loc b ↦[A 2]{fullShare} f)) ∗ over (F := F) c b A)
      ⊢ (iprop(∃ f : Buf (Elt F) ((c : Thread nD τ).loc b), pts c b f) : sProp 𝕄) := by
  rw [← fin3_eq (fun j => iprop(∃ f : Buf (Elt F) ((c : Thread nD τ).loc b), (c : Thread nD τ).loc b ↦[A j]{fullShare} f))]
  exact Ring.fam_join A hd f₀

end Cut

section Data

variable (c : Dev nD)

/-- The four exchange buffers, whole. -/
def whole4 : sProp 𝕄 :=
  iprop((∃ f : Buf (Elt F) ((c : Thread nD τ).loc cc0_scratch2), pts c cc0_scratch2 f) ∗ (∃ f : Buf (Elt F) ((c : Thread nD τ).loc cc0_scratch3), pts c cc0_scratch3 f) ∗ (∃ f : Buf (Elt F) ((c : Thread nD τ).loc cc0_scratch4), pts c cc0_scratch4 f) ∗ (∃ f : Buf (Elt F) ((c : Thread nD τ).loc cc0_scratch5), pts c cc0_scratch5 f))

/-- What the slots leave of the four. -/
def over4 : sProp 𝕄 :=
  iprop(over (F := F) c cc0_scratch2 (fun j => (cOut j).view.set) ∗ over (F := F) c cc0_scratch3 (fun j => (cIn j).view.set) ∗ over (F := F) c cc0_scratch4 (fun j => (sOut j).view.set) ∗ over (F := F) c cc0_scratch5 (fun j => (sIn j).view.set))

theorem apart_cOut (i j : Fin 3) (h : i ≠ j) : Disjoint (cOut i).view.set (cOut j).view.set := View.disjoint_slice (apartC i j h)
theorem apart_cIn (i j : Fin 3) (h : i ≠ j) : Disjoint (cIn i).view.set (cIn j).view.set := View.disjoint_slice (apartC i j h)
theorem apart_sOut (i j : Fin 3) (h : i ≠ j) : Disjoint (sOut i).view.set (sOut j).view.set := View.disjoint_slice (apartS i j h)
theorem apart_sIn (i j : Fin 3) (h : i ≠ j) : Disjoint (sIn i).view.set (sIn j).view.set := View.disjoint_slice (apartS i j h)

theorem slots_cut : whole4 (F := F) c ⊢ iprop((slots (F := F) c 0 ∗ slots (F := F) c 1 ∗ slots (F := F) c 2) ∗ over4 (F := F) c) := by
  unfold whole4 over4 slots free
  iintro ⟨H2, H3, H4, H5⟩
  ihave H2 := (cut (F := F) c cc0_scratch2 (fun j => (cOut j).view.set) apart_cOut) $$ H2
  icases H2 with ⟨⟨A0, B0, C0⟩, D0⟩
  ihave H3 := (cut (F := F) c cc0_scratch3 (fun j => (cIn j).view.set) apart_cIn) $$ H3
  icases H3 with ⟨⟨A1, B1, C1⟩, D1⟩
  ihave H4 := (cut (F := F) c cc0_scratch4 (fun j => (sOut j).view.set) apart_sOut) $$ H4
  icases H4 with ⟨⟨A2, B2, C2⟩, D2⟩
  ihave H5 := (cut (F := F) c cc0_scratch5 (fun j => (sIn j).view.set) apart_sIn) $$ H5
  icases H5 with ⟨⟨A3, B3, C3⟩, D3⟩
  isplitr [D0 D1 D2 D3]
  · isplitl [A0 A1 A2 A3]
    · isplitl [A0]; · iexact A0
      isplitl [A2]; · iexact A2
      isplitl [A1]; · iexact A1
      iexact A3
    isplitl [B0 B1 B2 B3]
    · isplitl [B0]; · iexact B0
      isplitl [B2]; · iexact B2
      isplitl [B1]; · iexact B1
      iexact B3
    isplitl [C0]; · iexact C0
    isplitl [C2]; · iexact C2
    isplitl [C1]; · iexact C1
    iexact C3
  isplitl [D0]; · iexact D0
  isplitl [D1]; · iexact D1
  isplitl [D2]; · iexact D2
  iexact D3

theorem slots_join (m : (ℓ : Loc nD τ sig) → Buf (Elt F) ℓ) :
    iprop((slots (F := F) c 0 ∗ slots (F := F) c 1 ∗ slots (F := F) c 2) ∗ over4 (F := F) c) ⊢ whole4 (F := F) c := by
  unfold whole4 over4 slots free
  iintro ⟨⟨⟨A0, A2, A1, A3⟩, ⟨B0, B2, B1, B3⟩, C0, C2, C1, C3⟩, D0, D1, D2, D3⟩
  isplitl [A0 B0 C0 D0]
  · iapply (join (F := F) c cc0_scratch2 (fun j => (cOut j).view.set) apart_cOut (m ((c : Thread nD τ).loc cc0_scratch2)))
    isplitr [D0]
    · isplitl [A0]; · iexact A0
      isplitl [B0]; · iexact B0
      iexact C0
    iexact D0
  isplitl [A1 B1 C1 D1]
  · iapply (join (F := F) c cc0_scratch3 (fun j => (cIn j).view.set) apart_cIn (m ((c : Thread nD τ).loc cc0_scratch3)))
    isplitr [D1]
    · isplitl [A1]; · iexact A1
      isplitl [B1]; · iexact B1
      iexact C1
    iexact D1
  isplitl [A2 B2 C2 D2]
  · iapply (join (F := F) c cc0_scratch4 (fun j => (sOut j).view.set) apart_sOut (m ((c : Thread nD τ).loc cc0_scratch4)))
    isplitr [D2]
    · isplitl [A2]; · iexact A2
      isplitl [B2]; · iexact B2
      iexact C2
    iexact D2
  iapply (join (F := F) c cc0_scratch5 (fun j => (sIn j).view.set) apart_sIn (m ((c : Thread nD τ).loc cc0_scratch5)))
  isplitr [D3]
  · isplitl [A3]; · iexact A3
    isplitl [B3]; · iexact B3
    iexact C3
  iexact D3

/-! ## The proof data -/

/-- The counters of slot `j` at zero. -/
def zeros (j : Fin 3) : sProp 𝕄 :=
  iprop(semVal (dCell c j 0) 0 ∗ semVal (dCell c j 1) 0 ∗ semVal (dCell c j 2) 0 ∗ semVal (dCell c j 3) 0)

/-- A device's rights as the launch leaves them. -/
def ghost (K : Dev nD × Ci → ℕ) : sProp 𝕄 :=
  iprop(records m ρ K ∗ atPos ER (barCell c) 0 ∅ 0 ∗ lane (F := F) c 0 ∗ lane (F := F) c 1 ∗ lane (F := F) c 2)

def start : sProp 𝕄 :=
  iprop((∃ K, ghost m ρ c K) ∗ cred (tallyAt (barCell c) () 3) ∗ (due (F := F) c 0 ∗ due (F := F) c 1 ∗ due (F := F) c 2) ∗ levAts L lv)

def Φ₀ : sProp 𝕄 :=
  iprop(start m ρ c ∗ (∃ f : Buf (Elt F) ((c : Thread nD τ).loc cc0_scratch0), pts c cc0_scratch0 f)
    ∗ (∃ f : Buf (Elt F) ((c : Thread nD τ).loc cc0_scratch1), pts c cc0_scratch1 f) ∗ whole4 (F := F) c)
def Φ₁ : sProp 𝕄 :=
  iprop(semVal (barCell c) 0 ∗ (zeros (F := F) c 0 ∗ zeros (F := F) c 1 ∗ zeros (F := F) c 2)
    ∗ (∃ f : Buf (Elt F) ((c : Thread nD τ).loc cc0_scratch0), pts c cc0_scratch0 f)
    ∗ (∃ f : Buf (Elt F) ((c : Thread nD τ).loc cc0_scratch1), pts c cc0_scratch1 f) ∗ whole4 (F := F) c)

end Data

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m ρ c
    | ⟨1, _⟩ => rwV m ρ c
    | ⟨2, _⟩ => riV m ρ c
    | ⟨3, _⟩ => exV m ρ c
    | ⟨4, _⟩ => shV m ρ c
    | ⟨5, _⟩ => outV m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Obligation

variable (c : Dev nD)

def bodyPre : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost : sProp 𝕄 :=
  iprop(Φ₁ (F := F) c ∗ (dats m ρ 0 c).owesAt () t₀.succ
    ∗ stg c cc0_stg0_0 (xV m ρ c)
    ∗ stg c cc0_stg1_0 (rwV m ρ c)
    ∗ stg c cc0_stg2_0 (riV m ρ c)
    ∗ stg c cc0_stg3_0 (exV m ρ c)
    ∗ stg c cc0_stg4_0 (shV m ρ c)
    ∗ stg c cc0_stg5_0 (outV m ρ c))

theorem owes_first : (dats m ρ 0 c).owesAt () t₀.castSucc ⊢ ow c (debts c) := by
  unfold Dat.owesAt Pipeline.owesWithin ow
  rw [show (dats m ρ 0 c).owed t₀.castSucc = O₀ c from rfl]
  iintro ⟨%W, -, HO⟩
  iexists W; iexact HO
theorem owes_last : ow c [] ⊢ (dats m ρ 0 c).owesAt () t₀.succ := by
  unfold Dat.owesAt Pipeline.owesWithin ow
  rw [show (dats m ρ 0 c).owed t₀.succ = owedL [] from rfl]
  iintro ⟨%W, HO⟩
  iexists W
  isplitr; · ipureintro; exact fun _ _ => Or.inl trivial
  iexact HO

theorem back_out (j : Fin 3) : back (F := F) c j ⊢ iprop(zeros (F := F) c j ∗ slots (F := F) c j) := by
  unfold back got left zeros slots
  iintro ⟨⟨Hz1, Hz3, Hc, Hs⟩, Hz0, Hz2, Hc', Hs'⟩
  isplitr [Hc Hs Hc' Hs']
  · isplitl [Hz0]; · iexact Hz0
    isplitl [Hz1]; · iexact Hz1
    isplitl [Hz2]; · iexact Hz2
    iexact Hz3
  isplitl [Hc']; · iexact Hc'
  isplitl [Hs']; · iexact Hs'
  isplitl [Hc]; · iexact Hc
  iexact Hs

theorem before0 (d) : (dats m ρ 0 c).before (0 : Fin 6) t₀ d = xV m ρ c := by
  unfold Dat.before; rw [if_pos (fetch0_0 _)]; rfl
theorem before1 (d) : (dats m ρ 0 c).before (1 : Fin 6) t₀ d = rwV m ρ c := by
  unfold Dat.before; rw [if_pos (fetch0_1 _)]; rfl
theorem before2 (d) : (dats m ρ 0 c).before (2 : Fin 6) t₀ d = riV m ρ c := by
  unfold Dat.before; rw [if_pos (fetch0_2 _)]; rfl
theorem before3 (d) : (dats m ρ 0 c).before (3 : Fin 6) t₀ d = exV m ρ c := by
  unfold Dat.before; rw [if_pos (fetch0_3 _)]; rfl
theorem before4 (d) : (dats m ρ 0 c).before (4 : Fin 6) t₀ d = shV m ρ c := by
  unfold Dat.before; rw [if_pos (fetch0_4 _)]; rfl

theorem sound_body : bodyPre m ρ c ⊢ WP c (atBufs (cc0_body (F := F))) (fun _ => bodyPost m ρ c) := by
  unfold bodyPre Φ₀ start ghost
  iintro ⟨⟨⟨⟨%K, #HR, Hab, HL⟩, Hcb, Hdue, #Hlev⟩, ⟨%f0, Hs0⟩, ⟨%f1, Hs1⟩, Hw⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = xV m ρ c := by rw [hg0]; exact before0 m ρ c d0
  subst e0
  have e1 : g1 = rwV m ρ c := by rw [hg1]; exact before1 m ρ c d1
  subst e1
  have e2 : g2 = riV m ρ c := by rw [hg2]; exact before2 m ρ c d2
  subst e2
  have e3 : g3 = exV m ρ c := by rw [hg3]; exact before3 m ρ c d3
  subst e3
  have e4 : g4 = shV m ρ c := by rw [hg4]; exact before4 m ρ c d4
  subst e4
  ihave HO := (owes_first m ρ c) $$ Ho
  ihave Hw := (slots_cut (F := F) c) $$ Hw
  icases Hw with ⟨Hsl, Hover⟩
  iapply (device_run m ρ K c f0 f1 g5 fun _ => bodyPost m ρ c)
  isplitr [Hover]
  · isplitr; · iexact HR
    isplitr; · iexact Hlev
    isplitl [Hab Hcb]
    · isplitl [Hab]; · iexact Hab
      iexact Hcb
    isplitl [HL]; · iexact HL
    isplitl [Hdue]; · iexact Hdue
    isplitl [Hsl]; · iexact Hsl
    isplitl [HO]; · iexact HO
    isplitl [Hs0]; · iexact Hs0
    isplitl [Hs1]; · iexact Hs1
    isplitl [H0]; · iexact H0
    isplitl [H1]; · iexact H1
    isplitl [H2]; · iexact H2
    isplitl [H3]; · iexact H3
    isplitl [H4]; · iexact H4
    iexact H5
  unfold ends
  iintro ⟨HO, H0, H1, H2, H3, H4, H5, Hzb, Hs0, Hs1, Hk0, Hk1, Hk2⟩
  ihave Hk0 := (back_out (F := F) c 0) $$ Hk0
  ihave Hk1 := (back_out (F := F) c 1) $$ Hk1
  ihave Hk2 := (back_out (F := F) c 2) $$ Hk2
  icases Hk0 with ⟨Hz0, Hl0⟩
  icases Hk1 with ⟨Hz1, Hl1⟩
  icases Hk2 with ⟨Hz2, Hl2⟩
  ihave Hw := (slots_join (F := F) c m) $$ [Hl0 Hl1 Hl2 Hover]
  · isplitr [Hover]
    · isplitl [Hl0]; · iexact Hl0
      isplitl [Hl1]; · iexact Hl1
      iexact Hl2
    iexact Hover
  ihave HO := (owes_last m ρ c) $$ HO
  unfold bodyPost Φ₁
  isplitl [Hzb Hz0 Hz1 Hz2 Hs0 Hs1 Hw]
  · isplitl [Hzb]; · iexact Hzb
    isplitl [Hz0 Hz1 Hz2]
    · isplitl [Hz0]; · iexact Hz0
      isplitl [Hz1]; · iexact Hz1
      iexact Hz2
    isplitl [Hs0]; · iexact Hs0
    isplitl [Hs1]; · iexact Hs1
    iexact Hw
  isplitl [HO]; · iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The pipeline's obligation of the body. -/
theorem body_obligation : BodyObligation (dats (F := F) m ρ 0 c) (defs₀ (F := F)) 𝒱₀ () Set.univ := fun t => by
  rw [fin_N t]
  rw [bigSep_W0, bigSep_W0]
  simp only [owns_whole_eq]
  exact sound_body m ρ c

end Obligation

end Cert.Exchange

end
-- ==== Proof.Launch.lean ====
/- The launch: the semaphores' records and tokens dealt to the devices, the credits counted, and the run of the four devices. -/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev osem : Fin 3 × Fin 4 → SemLoc sig := fun jk => .dma (dsem jk.1 jk.2)

theorem ownSemFacts : Pipeline.OwnSemFacts cfg0.spec osem := by decide

theorem share_eq (c : Dev nD) (w : Fin cfg0.W) : (dats m ρ 0 c).share w = fullShare := by unfold Dat.share; split <;> rfl

theorem bar_inj {a b : Dev nD} : barCell a = barCell b ↔ a = b :=
  ⟨fun h => Fin.ext (congrArg (fun g : GSem nD τ sig => g.1.1.val) h), fun h => h ▸ rfl⟩

theorem cell_inj {a b : Dev nD} {j i : Fin 3} {k l : Fin 4} : dCell a j k = dCell b i l ↔ a = b ∧ j = i ∧ k = l := by
  constructor
  · intro h
    have h1 : a = b := Fin.ext (congrArg (fun g : GSem nD τ sig => g.1.1.val) h)
    have h2 : dsem j k = dsem i l := SemLoc.dma.inj (congrArg Prod.snd h)
    exact ⟨h1, by rw [← slotOf_dsem j k, h2, slotOf_dsem], by rw [← kindOf_dsem j k, h2, kindOf_dsem]⟩
  · rintro ⟨rfl, rfl, rfl⟩; rfl

theorem bar_ne_cell {a b : Dev nD} {j : Fin 3} {k : Fin 4} : barCell a ≠ dCell b j k := fun h => by cases congrArg Prod.snd h

theorem kcell_injective : Function.Injective (kcell : Dev nD × Ci → GSem nD τ sig) := by
  rintro ⟨c, _ | ⟨j, k⟩⟩ ⟨d, _ | ⟨i, l⟩⟩ h
  · obtain rfl : c = d := bar_inj.mp h
    rfl
  · exact absurd h bar_ne_cell
  · exact absurd h.symm bar_ne_cell
  · obtain ⟨rfl, rfl, rfl⟩ : c = d ∧ j = i ∧ k = l := cell_inj.mp h
    rfl

def ourCells : Finset (GSem nD τ sig) := Finset.univ.map ⟨kcell, kcell_injective⟩

/-- The duties of a device's own semaphores: three on its barrier, one on each transfer semaphore. -/
abbrev Ti : Type := Fin 3 ⊕ (Fin 3 × Fin 4)
abbrev tokOf (x : Dev nD × Ti) : GSem nD τ sig × ℕ × Fin 3 := match x.2 with
  | .inl j => (barCell x.1, 0, j)
  | .inr jk => (dCell x.1 jk.1 jk.2, 0, 0)

theorem tokOf_injective : Function.Injective (tokOf : Dev nD × Ti → GSem nD τ sig × ℕ × Fin 3) := by
  rintro ⟨c, i | ⟨j, k⟩⟩ ⟨d, i' | ⟨j', k'⟩⟩ h
  · obtain rfl : c = d := bar_inj.mp (congrArg Prod.fst h)
    obtain rfl : i = i' := congrArg (fun x => x.2.2) h
    rfl
  · exact absurd (congrArg Prod.fst h) bar_ne_cell
  · exact absurd (congrArg Prod.fst h).symm bar_ne_cell
  · obtain ⟨rfl, rfl, rfl⟩ : c = d ∧ j = j' ∧ k = k' := cell_inj.mp (congrArg Prod.fst h)
    rfl

def ourToks : Finset (GSem nD τ sig × ℕ × Fin 3) := Finset.univ.map ⟨tokOf, tokOf_injective⟩

def u₀ : UU := (initOf (Pipeline.cells cfgs cellOf_inj) (Pipeline.launchToks cfgs cellOf_inj), initOf ourCells ourToks)

/-- The tokens of a device's own semaphores. -/
def toks (c : Dev nD) : sProp 𝕄 :=
  bigSep Finset.univ fun x : Ti => dutyTok ER (tokOf (c, x)).1 (tokOf (c, x)).2.1 (tokOf (c, x)).2.2

def G (c : Dev nD) : sProp 𝕄 :=
  iprop((bigSep Finset.univ fun k : Ci => roundState ER (Rd m ρ) (kcell (c, k)) 0)
    ∗ (bigSep Finset.univ fun k : Ci => iprop(atPos ER (kcell (c, k)) 0 ∅ 0 ∗ reached ER (kcell (c, k)) 0)) ∗ toks c)
def G' (c : Dev nD) : sProp 𝕄 := iprop(∃ K, ghost m ρ c K)

theorem fund_ours : BI.own (ER (initOf ourCells ourToks)) ⊢ (|==> bigSep Finset.univ (G m ρ) : sProp 𝕄) := by
  have hX (Φ : GSem nD τ sig → sProp 𝕄) : bigSep ourCells Φ = bigSep Finset.univ fun c : Dev nD => bigSep Finset.univ fun k : Ci => Φ (kcell (c, k)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]; rfl
  iintro HX
  imod (Rounds.fund ER (Rd m ρ) ourCells ourToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters -/

/-- A family over a device's semaphores, the barrier's member and the transfers' apart. -/
theorem ci_eq (Φ : Ci → sProp 𝕄) : bigSep Finset.univ Φ = iprop(Φ (.inl ()) ∗ bigSep Finset.univ fun jk : Fin 3 × Fin 4 => Φ (.inr jk)) := by
  rw [BI.bigSep_univ_sum]
  congr 1
  exact bigSep_univ_eq_bigSepL [()] (by decide) (by decide) _
theorem fin4_eq (Φ : Fin 4 → sProp 𝕄) : bigSep Finset.univ Φ = iprop(Φ 0 ∗ Φ 1 ∗ Φ 2 ∗ Φ 3) := bigSep_univ_eq_bigSepL [0, 1, 2, 3] (by decide) (by decide) Φ

theorem unscopedSems0_eq (c : Dev nD) : (unscopedSems0 c : sProp 𝕄) = semVal (barCell c) 0 := by
  unfold unscopedSems0; rw [bigSep_eq_bigSepL_of_eq [SemLoc.reg barS.sem] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun jk : Fin 3 × Fin 4 => semVal (dCell c jk.1 jk.2) 0 := rfl

theorem zeros_eq (c : Dev nD) : (bigSep Finset.univ fun jk : Fin 3 × Fin 4 => (semVal (dCell c jk.1 jk.2) 0 : sProp 𝕄))
    = iprop(zeros (F := F) c 0 ∗ zeros (F := F) c 1 ∗ zeros (F := F) c 2) := by
  rw [bigSep_univ_prod, fin3_eq, fin4_eq, fin4_eq, fin4_eq]; rfl

/-! ## The records -/

/-- A device's part of the deal: its positions, and the tokens of its own semaphores. -/
def dealt (c : Dev nD) : sProp 𝕄 := iprop((bigSep Finset.univ fun k : Ci => atPos ER (kcell (c, k)) 0 ∅ 0) ∗ toks c)

theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k)) ∗ reached ER (kcell (c, k)) 0)) ∗ dealt c) := by
  unfold G dealt
  rw [ownSems0_eq, unscopedSems0_eq, bigSep_sep' Finset.univ (fun k : Ci => (atPos ER (kcell (c, k)) 0 ∅ 0 : sProp 𝕄)) (fun k => reached ER (kcell (c, k)) 0)]
  iintro ⟨Hd, Hb, Hst, ⟨Hat, Hr⟩, Htok⟩
  imod (show iprop((bigSep Finset.univ fun k : Ci => semVal (kcell (c, k)) 0) ∗ bigSep Finset.univ fun k : Ci => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hd Hb Hst] with Hinv
  · isplitr [Hst]
    · rw [ci_eq]
      isplitl [Hb]; · iexact Hb
      iexact Hd
    iexact Hst
  imodintro
  isplitl [Hinv Hr]
  · iapply (show iprop((bigSep Finset.univ fun k : Ci => iprop(∃ κ : ℕ, cellInv ER (Rd m ρ) κ (kcell (c, k)))) ∗ bigSep Finset.univ fun k : Ci => reached ER (kcell (c, k)) 0)
        ⊢ (bigSep Finset.univ fun k => iprop(∃ κ : ℕ, cellInv ER (Rd m ρ) κ (kcell (c, k)) ∗ reached ER (kcell (c, k)) 0) : sProp 𝕄) from by
          rw [← bigSep_sep']
          refine bigSep_mono fun k _ => ?_
          show iprop((∃ κ : ℕ, cellInv ER (Rd m ρ) κ (kcell (c, k))) ∗ reached ER (kcell (c, k)) 0)
            ⊢ iprop(∃ κ : ℕ, cellInv ER (Rd m ρ) κ (kcell (c, k)) ∗ reached ER (kcell (c, k)) 0)
          iintro ⟨⟨%κ, H⟩, Hr⟩
          iexists κ
          isplitl [H] <;> iassumption)
    isplitl [Hinv] <;> iassumption
  isplitl [Hat] <;> iassumption

/-! ## The tokens dealt round -/

/-- The tokens a device pays with, slot by slot. -/
def pays (c : Dev nD) (j : Fin 3) : sProp 𝕄 := iprop(dutyTok ER (barCell (src j c)) 0 j ∗ sendToks (F := F) c j)

/-- The tokens of a device's own slot `j`. -/
def mine (c : Dev nD) (j : Fin 3) : sProp 𝕄 :=
  iprop(dutyTok ER (barCell c) 0 j ∗ dutyTok ER (dCell c j 0) 0 0 ∗ dutyTok ER (dCell c j 1) 0 0 ∗ dutyTok ER (dCell c j 2) 0 0 ∗ dutyTok ER (dCell c j 3) 0 0)

theorem toks_eq (c : Dev nD) : (toks c : sProp 𝕄) = bigSep Finset.univ fun j : Fin 3 => mine (F := F) c j := by
  unfold toks mine
  rw [BI.bigSep_univ_sum, bigSep_univ_prod, bigSep_sep']
  congr 1
  exact bigSep_congr fun j _ => by rw [fin4_eq]

/-- Slot `j`'s tokens pass from the devices they belong to, to the devices that pay with them. -/
theorem toks_turn (j : Fin 3) : (bigSep Finset.univ fun c : Dev nD => (mine (F := F) c j : sProp 𝕄)) ⊢ bigSep Finset.univ fun c : Dev nD => pays c j := by
  unfold mine pays sendToks
  simp only [bigSep_sep']
  rw [bigSep_univ_equiv (turn j).symm (fun c : Dev nD => (dutyTok ER (barCell c) 0 j : sProp 𝕄)),
    bigSep_univ_equiv (turn j) (fun c : Dev nD => (dutyTok ER (dCell c j 1) 0 0 : sProp 𝕄)),
    bigSep_univ_equiv (turn j) (fun c : Dev nD => (dutyTok ER (dCell c j 3) 0 0 : sProp 𝕄))]
  iintro ⟨Hb, H0, H1, H2, H3⟩
  isplitl [Hb]; · iexact Hb
  isplitl [H0]; · iexact H0
  isplitl [H1]; · iexact H1
  isplitl [H2]; · iexact H2
  iexact H3

theorem toks_around : (bigSep Finset.univ fun c : Dev nD => (toks c : sProp 𝕄))
    ⊢ bigSep Finset.univ fun c : Dev nD => bigSep Finset.univ fun j : Fin 3 => pays (F := F) c j := by
  rw [bigSep_congr (s := Finset.univ) fun (c : Dev nD) _ => toks_eq (F := F) c]
  rw [← bigSep_univ_prod (fun x : Dev nD × Fin 3 => (mine (F := F) x.1 x.2 : sProp 𝕄)), ← bigSep_univ_prod (fun x : Dev nD × Fin 3 => (pays (F := F) x.1 x.2 : sProp 𝕄)),
    bigSep_univ_equiv (Equiv.prodComm (Fin 3) (Dev nD)) (fun x : Dev nD × Fin 3 => (mine (F := F) x.1 x.2 : sProp 𝕄)),
    bigSep_univ_equiv (Equiv.prodComm (Fin 3) (Dev nD)) (fun x : Dev nD × Fin 3 => (pays (F := F) x.1 x.2 : sProp 𝕄)), bigSep_univ_prod, bigSep_univ_prod]
  exact bigSep_mono fun j _ => toks_turn j

theorem lanes_intro (c : Dev nD) :
    iprop((bigSep Finset.univ fun k : Ci => atPos ER (kcell (c, k)) 0 ∅ 0) ∗ bigSep Finset.univ fun j : Fin 3 => pays (F := F) c j)
      ⊢ iprop(atPos ER (barCell c) 0 ∅ 0 ∗ lane (F := F) c 0 ∗ lane (F := F) c 1 ∗ lane (F := F) c 2) := by
  rw [ci_eq, bigSep_univ_prod (fun jk : Fin 3 × Fin 4 => (atPos ER (kcell (c, .inr jk)) 0 ∅ 0 : sProp 𝕄)), ← fin3_eq (fun j => lane (F := F) c j)]
  iintro ⟨⟨Hb, Ha⟩, Hp⟩
  isplitl [Hb]; · iexact Hb
  iapply (show iprop((bigSep Finset.univ fun j : Fin 3 => bigSep Finset.univ fun k : Fin 4 => atPos ER (dCell c j k) 0 ∅ 0) ∗ bigSep Finset.univ fun j : Fin 3 => pays (F := F) c j)
      ⊢ (bigSep Finset.univ fun j : Fin 3 => lane (F := F) c j : sProp 𝕄) from by
        rw [← bigSep_sep']
        refine bigSep_mono fun j _ => ?_
        rw [fin4_eq]
        unfold pays lane
        show iprop((atPos ER (dCell c j 0) 0 ∅ 0 ∗ atPos ER (dCell c j 1) 0 ∅ 0 ∗ atPos ER (dCell c j 2) 0 ∅ 0 ∗ atPos ER (dCell c j 3) 0 ∅ 0)
            ∗ dutyTok ER (barCell (src j c)) 0 j ∗ sendToks (F := F) c j)
          ⊢ iprop(dutyTok ER (barCell (src j c)) 0 j ∗ sendToks (F := F) c j
            ∗ atPos ER (dCell c j 0) 0 ∅ 0 ∗ atPos ER (dCell c j 1) 0 ∅ 0 ∗ atPos ER (dCell c j 2) 0 ∅ 0 ∗ atPos ER (dCell c j 3) 0 ∅ 0)
        iintro ⟨Ha, Hb, Hs⟩
        isplitl [Hb]; · iexact Hb
        isplitl [Hs]; · iexact Hs
        iexact Ha)
  isplitl [Ha] <;> iassumption

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD =>
        iprop((bigSep Finset.univ fun k => iprop(∃ κ : ℕ, cellInv ER (Rd m ρ) κ (kcell (c, k)) ∗ reached ER (kcell (c, k)) 0)) ∗ dealt c) : sProp 𝕄)
      ⊢ bigSep Finset.univ (G' m ρ) := by
  unfold dealt
  rw [bigSep_sep' Finset.univ (fun c : Dev nD => bigSep Finset.univ fun k => iprop(∃ κ : ℕ, cellInv ER (Rd m ρ) κ (kcell (c, k)) ∗ reached ER (kcell (c, k)) 0))
      (fun c => iprop((bigSep Finset.univ fun k : Ci => atPos ER (kcell (c, k)) 0 ∅ 0) ∗ toks c)),
    bigSep_sep' Finset.univ (fun c : Dev nD => bigSep Finset.univ fun k : Ci => (atPos ER (kcell (c, k)) 0 ∅ 0 : sProp 𝕄)) toks,
    ← bigSep_univ_prod (fun x : Dev nD × Ci => iprop(∃ κ : ℕ, cellInv ER (Rd m ρ) κ (kcell x) ∗ reached ER (kcell x) 0))]
  iintro ⟨HI, Hat, Htok⟩
  ihave HK := (BI.bigSep_exists_pi Finset.univ (fun (x : Dev nD × Ci) (κ : ℕ) => (iprop(cellInv ER (Rd m ρ) κ (kcell x) ∗ reached ER (kcell x) 0) : sProp 𝕄))) $$ HI
  icases HK with ⟨%K, #HI⟩
  ihave Htk := (toks_around (F := F)) $$ Htok
  iapply (with_shared (R := records m ρ K) (Φ := fun c : Dev nD => iprop((bigSep Finset.univ fun k : Ci => atPos ER (kcell (c, k)) 0 ∅ 0) ∗ bigSep Finset.univ fun j : Fin 3 => pays (F := F) c j))
    fun c _ => by
      unfold G' ghost
      iintro ⟨#HR, H⟩
      iexists K
      isplitr; · iexact HR
      iapply (lanes_intro (F := F) c); iexact H)
  isplitr
  · unfold records; iexact HI
  iapply (Entails.of_eq (bigSep_sep' Finset.univ (fun c : Dev nD => bigSep Finset.univ fun k : Ci => (atPos ER (kcell (c, k)) 0 ∅ 0 : sProp 𝕄))
    (fun c => bigSep Finset.univ fun j : Fin 3 => pays (F := F) c j)).symm)
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (regroup m ρ))

/-! ## The launch credit -/

/-- What a list of debts owes one semaphore. -/
theorem owedL_apply (l : List (GSem nD τ sig × ℕ)) (g : GSem nD τ sig) : owedL l g () = (l.map fun p => if g = p.1 then p.2 else 0).sum := by
  induction l with
  | nil => rfl
  | cons p l ih =>
    obtain ⟨g', n⟩ := p
    rw [List.map_cons, List.sum_cons]
    show (owedL l + tallyAt g' () n) g () = _
    rw [Pi.add_apply, Finsupp.add_apply, ih, tallyAt_apply, Nat.add_comm]
    simp only [and_true]

theorem owed_bar (d c : Dev nD) : O₀ d (barCell c) () = if d = c then 0 else 1 := by
  rw [owedL_apply]
  simp only [List.map_cons, List.map_nil, List.sum_cons, List.sum_nil, bar_inj, if_neg bar_ne_cell]
  revert d c; decide

theorem owed_cell (d c : Dev nD) (j : Fin 3) (k : Fin 4) (hk : k = 1 ∨ k = 3) : O₀ d (dCell c j k) () = if d = src j c then NK k else 0 := by
  rw [owedL_apply]
  simp only [List.map_cons, List.map_nil, List.sum_cons, List.sum_nil, cell_inj, if_neg bar_ne_cell.symm]
  have e : (d = src j c) = (c = dst j d) := propext ⟨fun h => by rw [h, dst_src], fun h => by rw [h, src_dst]⟩
  rw [if_congr (Iff.of_eq e) rfl rfl]
  rcases hk with rfl | rfl <;> fin_cases j <;> simp [NK]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_cell (c : Dev nD) (j : Fin 3) (k : Fin 4) (hk : k = 1 ∨ k = 3) :
    tallyOn (dCell c j k) (launchCredit (Pipeline.owing O₀) 0 (dCell c j k)) = (tallyAt (dCell c j k) () (NK k) : CellTallies nD τ sig Unit) := by
  unfold tallyAt; refine congrArg _ (Finsupp.ext fun u => ?_); cases u
  rw [Pipeline.launchCredit_owing, Finsupp.single_eq_same, Finset.sum_congr rfl fun d _ => owed_cell d c j k hk,
    Finset.sum_ite_eq' Finset.univ (src j c) fun _ => NK k, if_pos (Finset.mem_univ _)]

/-- The semaphores that are owed something, in the order in which their credits are handed out. -/
abbrev owedSems : List (SemLoc sig) :=
  [.reg barS.sem, .dma (dsem 0 1), .dma (dsem 0 3), .dma (dsem 1 1), .dma (dsem 1 3), .dma (dsem 2 1), .dma (dsem 2 3)]

theorem creds (c : Dev nD) :
    (Pipeline.launchCred O₀ c : sProp 𝕄) ⊢ iprop(cred (tallyAt (barCell c) () 3) ∗ due (F := F) c 0 ∗ due (F := F) c 1 ∗ due (F := F) c 2) := by
  unfold Pipeline.launchCred due
  refine (BI.bigSep_subset (t := owedSems.toFinset) (Finset.subset_univ _)).trans ?_
  rw [bigSep_eq_bigSepL_of_eq owedSems rfl (by decide)]
  rw [← launch_bar, ← launch_cell c 0 1 (.inl rfl), ← launch_cell c 0 3 (.inr rfl), ← launch_cell c 1 1 (.inl rfl), ← launch_cell c 1 3 (.inr rfl),
    ← launch_cell c 2 1 (.inl rfl), ← launch_cell c 2 3 (.inr rfl)]
  show iprop(cred (tallyOn (barCell c) (launchCredit (Pipeline.owing O₀) 0 (barCell c))) ∗ cred (tallyOn (dCell c 0 1) (launchCredit (Pipeline.owing O₀) 0 (dCell c 0 1)))
      ∗ cred (tallyOn (dCell c 0 3) (launchCredit (Pipeline.owing O₀) 0 (dCell c 0 3))) ∗ cred (tallyOn (dCell c 1 1) (launchCredit (Pipeline.owing O₀) 0 (dCell c 1 1)))
      ∗ cred (tallyOn (dCell c 1 3) (launchCredit (Pipeline.owing O₀) 0 (dCell c 1 3))) ∗ cred (tallyOn (dCell c 2 1) (launchCredit (Pipeline.owing O₀) 0 (dCell c 2 1)))
      ∗ cred (tallyOn (dCell c 2 3) (launchCredit (Pipeline.owing O₀) 0 (dCell c 2 3)))) ⊢ _
  iintro ⟨Hb, H01, H03, H11, H13, H21, H23⟩
  isplitl [Hb]; · iexact Hb
  isplitl [H01 H03]
  · isplitl [H01]; · iexact H01
    iexact H03
  isplitl [H11 H13]
  · isplitl [H11]; · iexact H11
    iexact H13
  isplitl [H21]; · iexact H21
  iexact H23

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2⟩
  imodintro
  unfold start G'
  isplitl
  · isplitl [HG]; · iexact HG
    isplitl [H1]; · iexact H1
    isplitl [H2]; · iexact H2
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ whole4
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, zeros_eq, unscopedSems0_eq]
  unfold Φ₁ whole4
  iintro ⟨Hb, Hz, Hr⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def Ends (r : PUnit × MemSt nD τ sig (Elt F)) : Prop :=
  ∀ c : Dev nD, ∀ w : Fin cfg0.W, r.2.mem ((cfg0.win w).arr.view.loc (c : Thread nD τ)) = finalA m ρ c w

/-- From any memory with all counters zero, for any float values, every fair execution of the four devices ends, with each
    device's arrays at the stated contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ours m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is as it was. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Exchange

end
-- ==== Proof.Frames.lean ====
/- The frame claims: both prints of the kernel run, end with their arguments unchanged and every counter at zero; and the same
   of the reference. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Exchange

open Idealize.ShloMosaic
open Idealize.ShloMosaic.TcCoe
open Idealize.SL.Sem

section Generic

open Cert.KernelIdeal Cert.KernelIdeal.Gen

variable {F : FTy → Type} [FloatOps F] [Named F]

/-- The five arguments of every device as they were. -/
def Kept (m m' : (ℓ : Loc nD τ sig) → Buf (Elt F) ℓ) : Prop :=
  ∀ c : Dev nD, m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)

theorem kept_of_ends (m : (ℓ : Loc nD τ sig) → Buf (Elt F) ℓ) (ρ : Dev nD → PrngReg) {r : PUnit × MemSt nD τ sig (Elt F)}
    (h : Ends m ρ r) : Kept m r.2.mem := fun c =>
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

theorem run_quiet (m : (ℓ : Loc nD τ sig) → Buf (Elt F) ℓ) (ρ : Dev nD → PrngReg) :
    θ_run defs (onTc (τ := τ) (main (F := F))) ⟨m, fun _ => 0, ρ⟩ (fun r => Kept m r.2.mem ∧ r.2.sem = fun _ => 0) :=
  (θ_run defs _ _).mono (fun _ h => ⟨kept_of_ends m ρ h.1, h.2⟩) (run_main m ρ)

end Generic

/-- At bit patterns a named constant is its bits. -/
local instance namedBits : Named Bits := ⟨fun _ _ _ bits => FloatOps.ofBits _ bits⟩

theorem quiet_ideal : Cert.quiescent_KernelIdeal (hKernelIdeal := Cert.KernelIdeal.Gen.facts) := fun m g _ => run_quiet m g

/-- What a launch's run is determined by: the pipeline's table and the body's. -/
theorem same_run {nD : Nat} {τ : Topo} {sig : RefSig} {Λ₀ : Labels} {V : EltTy → Type} (p p' : Fin 1 → Pipeline.PCfg sig Λ₀ V)
    (d d' : Defs nD τ sig V Λ₀) (hp : p = p') (hd : d = d') (s : MemSt nD τ sig V) (Q : PUnit × MemSt nD τ sig V → Prop)
    (h : θ_run (Pipeline.defs p d) (onTc (τ := τ) fun _ : Dev nD => do
      Prog.lift (.customCall (Pipeline.entry 0) ())
      pure ⟨⟩) s Q) :
    θ_run (Pipeline.defs p' d') (onTc (τ := τ) fun _ : Dev nD => do
      Prog.lift (.customCall (Pipeline.entry 0) ())
      pure ⟨⟩) s Q := by
  subst hp hd
  exact h

theorem tables : Cert.KernelIdeal.pcfgs (F := Bits) = Cert.Kernel.pcfgs (F := Bits) := rfl

theorem bodies : Cert.Kernel.defs₀ (F := Bits) = Cert.KernelIdeal.defs₀ (F := Bits) := by
  unfold Cert.Kernel.defs₀ Cert.KernelIdeal.defs₀
  congr 1; funext ℓ a; fin_cases ℓ; obtain ⟨t, s⟩ := a; exact rfl

theorem quiet_bits : Cert.quiescent_Kernel (hKernel := Cert.Kernel.Gen.facts) := fun m g _ =>
  same_run _ _ _ _ tables bodies.symm _ _ (run_quiet (F := Bits) m g)

theorem quiet_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by rfl) r.2⟩)
    (Cert.ReferenceIdeal.Value.run m g)

end Cert.Exchange

end
-- ==== Proof.Rows.lean ====
/- The mathematics of one token's row over the extended reals: the row's quantisation, the choice of the token's expert by the
   reference and by each device, and the sum of the devices' contributions. -/
module

public import Idealize.ShloMosaic.PureOps.Ideal
public import Idealize.ShloMosaic.Lib.ValueIdx
public import Idealize.ShloMosaic.Lib.WordCmp
public import Idealize.ShloMosaic.Lib.Routing.Words

@[expose] public section

set_option maxRecDepth 16384

noncomputable section

namespace Cert.Exchange

open Idealize.ShloMosaic

/-! ## Quantising a row -/

/-- The largest magnitude of a row, or the least the quantiser divides by. -/
def peak (y : Fin 1024 → EReal) : EReal :=
  max (Finset.fold max (Ideal.ofBits .f32 0xFF800000#32) (fun k => FloatOps.absf (F := Ideal) (φ := .f32) (y k)) Finset.univ)
    (Ideal.ofBits .f32 0x1E3CE508#32)

/-- An element of the row in units of the largest over 127, rounded. -/
def rounded (y : Fin 1024 → EReal) (f : Fin 1024) : EReal :=
  Ideal.liftRound Ideal.roundHalfEven (y f * Ideal.div (Ideal.ofBits .f32 0x42FE0000#32) (peak y))

theorem word_127 : Ideal.ofBits .f32 0x42FE0000#32 = ((127 : ℝ) : EReal) := by
  simp [Ideal.ofBits, Ideal.ieee, -EReal.coe_mul]
  norm_num

theorem word_tiny : (0 : EReal) < Ideal.ofBits .f32 0x1E3CE508#32 := by
  simp [Ideal.ofBits, Ideal.ieee, -EReal.coe_mul]

theorem abs_le_peak (y : Fin 1024 → EReal) (f : Fin 1024) : max (y f) (-(y f)) ≤ peak y :=
  le_max_of_le_left ((Finset.le_fold_max _).2 (.inr ⟨f, Finset.mem_univ f, le_refl _⟩))

theorem peak_pos (y : Fin 1024 → EReal) : 0 < peak y := lt_max_of_lt_right word_tiny

/-- What is rounded lies between -127 and 127. -/
theorem scaled (y : Fin 1024 → EReal) (f : Fin 1024) :
    ∃ v : ℝ, |v| ≤ 127 ∧ y f * Ideal.div (Ideal.ofBits .f32 0x42FE0000#32) (peak y) = (v : EReal) := by
  have hp := peak_pos y
  have hf := abs_le_peak y f
  rw [word_127]
  generalize peak y = p at hp hf
  generalize y f = a at hf
  induction p with
  | bot => exact absurd hp (by simp)
  | top => exact ⟨0, by simp, by simp [Ideal.div]⟩
  | coe p =>
    have hp' : 0 < p := by exact_mod_cast hp
    induction a with
    | bot => simp at hf
    | top => simp at hf
    | coe a =>
      rw [← EReal.coe_neg] at hf
      have h1 : a ≤ p := by exact_mod_cast (le_max_left _ _).trans hf
      have h2 : -a ≤ p := by exact_mod_cast (le_max_right _ _).trans hf
      refine ⟨a * (127 * (1 / p)), ?_, ?_⟩
      · rw [show a * (127 * (1 / p)) = a / p * 127 by ring, abs_mul, abs_div, abs_of_pos hp', abs_of_pos (by norm_num : (0 : ℝ) < 127)]
        have : |a| / p ≤ 1 := (div_le_one hp').2 (abs_le.2 ⟨by linarith, h1⟩)
        linarith
      · rw [Ideal.div_coe hp'.ne']
        norm_cast

/-- A rounded element is an integer between -127 and 127. -/
theorem rounded_int (y : Fin 1024 → EReal) (f : Fin 1024) : ∃ n : ℤ, -127 ≤ n ∧ n ≤ 127 ∧ rounded y f = ((n : ℝ) : EReal) := by
  obtain ⟨v, hv, h⟩ := scaled y f
  refine ⟨Ideal.roundHalfEven v, ?_, ?_, by rw [rounded, h, Ideal.liftRound_coe]⟩
  all_goals
    have h1 := Int.floor_le v
    have h2 := Int.lt_floor_add_one v
    obtain ⟨h3, h4⟩ := abs_le.1 hv
    unfold Ideal.roundHalfEven
    dsimp only
  · have : -127 ≤ ⌊v⌋ := Int.le_floor.2 (by push_cast; linarith)
    split_ifs <;> omega
  · have h5 : ⌊v⌋ ≤ 127 := by exact_mod_cast h1.trans h4
    have h6 : ¬ v - ⌊v⌋ < 1 / 2 → ⌊v⌋ < 127 := fun hn => by
      have : (⌊v⌋ : ℝ) < 127 := by linarith
      exact_mod_cast this
    split_ifs with a b
    · exact h5
    · have := h6 a; omega
    · exact h5
    · have := h6 a; omega

theorem clamped (lo hi n : ℤ) (h1 : lo ≤ n) (h2 : n ≤ hi) : Ideal.toIntClamped lo hi ((n : ℝ) : EReal) = n := by
  rw [Ideal.toIntClamped_coe]
  simp only [Int.floor_intCast, Int.ceil_intCast, ite_self]
  omega

/-- A rounded element is kept by its passage through eight bits … -/
theorem code_byte (y : Fin 1024 → EReal) (f : Fin 1024) :
    FloatOps.sitofp (F := Ideal) .f32 (FloatOps.fptosi (F := Ideal) (φ := .f32) 8 (rounded y f)) = rounded y f := by
  obtain ⟨n, h1, h2, h⟩ := rounded_int y f
  rw [h]
  show (((Ideal.fptosi 8 ((n : ℝ) : EReal)).toInt : ℝ) : EReal) = _
  rw [Ideal.fptosi, clamped _ _ _ (by norm_num; omega) (by norm_num; omega), BitVec.toInt_ofInt]
  congr 2
  exact Int.bmod_eq_of_le (by norm_num; omega) (by norm_num; omega)

/-- … and by its passage through thirty-two, eight and thirty-two. -/
theorem code_word (y : Fin 1024 → EReal) (f : Fin 1024) :
    FloatOps.sitofp (F := Ideal) .f32 (((FloatOps.fptosi (F := Ideal) (φ := .f32) 32 (rounded y f)).setWidth 8).signExtend 32) = rounded y f := by
  obtain ⟨n, h1, h2, h⟩ := rounded_int y f
  rw [h]
  show ((((((Ideal.fptosi 32 ((n : ℝ) : EReal)).setWidth 8).signExtend 32)).toInt : ℝ) : EReal) = _
  rw [Ideal.fptosi, clamped _ _ _ (by norm_num; omega) (by norm_num; omega)]
  congr 2
  rw [BitVec.toInt_signExtend_of_le (by norm_num), BitVec.toInt_setWidth, BitVec.toNat_ofInt]
  rw [Int.toNat_of_nonneg (Int.emod_nonneg _ (by norm_num))]
  rw [Int.bmod_def]
  norm_num
  split <;> omega

/-- What a device sends of a row of weight `p`, decoded. -/
def sent (y : Fin 1024 → EReal) (p : EReal) (f : Fin 1024) : EReal := rounded y f * (peak y * p * ((127⁻¹ : ℝ) : EReal))

theorem sent_zero (y : Fin 1024 → EReal) (f : Fin 1024) : sent y 0 f = 0 := by simp [sent]

theorem sent_eq (y : Fin 1024 → EReal) (p : EReal) (f : Fin 1024) :
    rounded y f * Ideal.div (peak y * p) (Ideal.ofBits .f32 0x42FE0000#32) = sent y p f := by
  rw [word_127, Ideal.div_coe (by norm_num), one_div, sent]

/-! ## Choosing the expert -/

theorem select_eq {α : Type} {w : ℕ} (a b : BitVec w) (x y : α) :
    Scalar.select (IntOp.cmpi .eq a b) x y = if a = b then x else y := by
  by_cases h : a = b
  · subst h; simp [Scalar.select, IntOp.cmpi]
  · simp [Scalar.select, IntOp.cmpi, h, beq_eq_false_iff_ne.2 h]

/-- Expert `j` of device `p`, and an expert's device. -/
def nth (p : Fin 4) (j : Fin 4) : Fin 16 := ⟨4 * p.val + j.val, by omega⟩
def home (e : Fin 16) : Fin 4 := ⟨e.val / 4, by omega⟩

/-- The reference's choice among sixteen. -/
def routed (q : BitVec 32) (D : Fin 16 → EReal) : EReal :=
  ∑ e : Fin 16, Scalar.select (IntOp.cmpi .eq (BitVec.ofNat 32 e.val) q) (D e) 0

/-- A device's choice among its four, by masking the token before the product … -/
def local4 (p : Fin 4) (q : BitVec 32) (D : Fin 16 → EReal) : EReal :=
  ∑ j : Fin 4, if q = BitVec.ofNat 32 (nth p j).val then D (nth p j) else 0

/-- … and by masking the sixteen by its range. -/
def masked (p : Fin 4) (q : BitVec 32) (D : Fin 16 → EReal) : EReal :=
  ∑ e : Fin 16, Scalar.select (IntOp.andi (IntOp.andi (IntOp.cmpi .eq (BitVec.ofNat 32 e.val) q)
    (IntOp.cmpi .sge (BitVec.ofNat 32 e.val) (BitVec.ofNat 32 (4 * p.val)))) (IntOp.cmpi .slt (BitVec.ofNat 32 e.val) (BitVec.ofNat 32 (4 * p.val + 4)))) (D e) 0

theorem ofNat_inj16 : ∀ e e' : Fin 16, BitVec.ofNat 32 e.val = BitVec.ofNat 32 e'.val ↔ e = e' := by decide

theorem in_range : ∀ (p : Fin 4) (e : Fin 16), IntOp.andi (IntOp.cmpi .sge (BitVec.ofNat 32 e.val) (BitVec.ofNat 32 (4 * p.val)))
    (IntOp.cmpi .slt (BitVec.ofNat 32 e.val) (BitVec.ofNat 32 (4 * p.val + 4))) = BitVec.ofBool (decide (home e = p)) := by decide

theorem nth_home : ∀ (p j : Fin 4), home (nth p j) = p := by decide

theorem home_nth (e : Fin 16) (p : Fin 4) (h : home e = p) : ∃ j, e = nth p j :=
  ⟨⟨e.val % 4, by omega⟩, by subst h; apply Fin.ext; simp only [nth, home]; omega⟩

theorem select_masked (p : Fin 4) (q : BitVec 32) (e : Fin 16) (x : EReal) :
    Scalar.select (IntOp.andi (IntOp.andi (IntOp.cmpi .eq (BitVec.ofNat 32 e.val) q)
      (IntOp.cmpi .sge (BitVec.ofNat 32 e.val) (BitVec.ofNat 32 (4 * p.val)))) (IntOp.cmpi .slt (BitVec.ofNat 32 e.val) (BitVec.ofNat 32 (4 * p.val + 4)))) x 0
      = if BitVec.ofNat 32 e.val = q ∧ home e = p then x else 0 := by
  have ha : ∀ a b c : BitVec 1, IntOp.andi (IntOp.andi a b) c = IntOp.andi a (IntOp.andi b c) := by decide
  rw [ha, in_range]
  by_cases h : BitVec.ofNat 32 e.val = q <;> by_cases h' : home e = p <;>
    simp [Scalar.select, IntOp.cmpi, IntOp.andi, h, h', beq_eq_false_iff_ne.2]

theorem routed_at (e : Fin 16) (D : Fin 16 → EReal) : routed (BitVec.ofNat 32 e.val) D = D e := by
  simp [routed, select_eq, ofNat_inj16]

theorem routed_none (q : BitVec 32) (h : ∀ e : Fin 16, q ≠ BitVec.ofNat 32 e.val) (D : Fin 16 → EReal) : routed q D = 0 :=
  Finset.sum_eq_zero fun e _ => by rw [select_eq, if_neg (Ne.symm (h e))]

theorem masked_at (p : Fin 4) (e : Fin 16) (D : Fin 16 → EReal) : masked p (BitVec.ofNat 32 e.val) D = if home e = p then D e else 0 := by
  simp only [masked, select_masked, ofNat_inj16, ite_and]
  simp

theorem masked_none (p : Fin 4) (q : BitVec 32) (h : ∀ e : Fin 16, q ≠ BitVec.ofNat 32 e.val) (D : Fin 16 → EReal) : masked p q D = 0 :=
  Finset.sum_eq_zero fun e _ => by rw [select_masked, if_neg fun h' => h e h'.1.symm]

theorem local4_at (p : Fin 4) (e : Fin 16) (D : Fin 16 → EReal) : local4 p (BitVec.ofNat 32 e.val) D = if home e = p then D e else 0 := by
  simp only [local4, ofNat_inj16]
  split
  · next h =>
    obtain ⟨j, rfl⟩ := home_nth e p h
    rw [Finset.sum_eq_single j]
    · rw [if_pos rfl]
    · intro k _ hk
      rw [if_neg]
      intro h'
      apply hk
      have := congrArg Fin.val h'
      simp only [nth] at this
      exact Fin.ext (by omega)
    · intro h'; exact absurd (Finset.mem_univ j) h'
  · next h =>
    refine Finset.sum_eq_zero fun j _ => if_neg ?_
    rintro rfl
    exact h (nth_home p j)

theorem local4_none (p : Fin 4) (q : BitVec 32) (h : ∀ e : Fin 16, q ≠ BitVec.ofNat 32 e.val) (D : Fin 16 → EReal) : local4 p q D = 0 :=
  Finset.sum_eq_zero fun j _ => if_neg (h _)

/-- Whether the token's chunk is its expert's. -/
theorem stay_at (r : ℕ) (hr : r < 2048) (e : Fin 16) :
    IntOp.cmpi .eq (IntOp.divsi .host (BitVec.ofNat 32 r) 512#32) (IntOp.divsi .host (BitVec.ofNat 32 e.val) 4#32)
      = BitVec.ofBool (decide (r / 512 = (home e).val)) := by
  have he : e.val / 4 < 4 := by omega
  rw [Routing.divsi_word .host (a := r) (b := 512) (by omega) (by norm_num) (by norm_num),
    Routing.divsi_word .host (a := e.val) (b := 4) (by omega) (by norm_num) (by norm_num),
    WordCmp.cmpi_eq_ofNat (by omega) (by omega)]
  rfl

/-! ## The sum over the devices -/

/-- One element of the kernel's row on device `c`: its own product exactly, the shared one, and what three other devices send. -/
def gathered (c p0 p1 p2 : Fin 4) (q : BitVec 32) (D : Fin 16 → Fin 1024 → EReal) (P : Fin 16 → EReal) (s : EReal) (f : Fin 1024) : EReal :=
  local4 c q (fun e => D e f) * masked c q P + s
    + sent (fun k => local4 p0 q fun e => D e k) (masked p0 q P) f
    + sent (fun k => local4 p1 q fun e => D e k) (masked p1 q P) f
    + sent (fun k => local4 p2 q fun e => D e k) (masked p2 q P) f

/-- One element of the reference's row. -/
def expected (stay : BitVec 1) (q : BitVec 32) (D : Fin 16 → Fin 1024 → EReal) (P : Fin 16 → EReal) (s : EReal) (f : Fin 1024) : EReal :=
  s + Scalar.select stay (routed q P * routed q fun e => D e f) (sent (fun k => routed q fun e => D e k) (routed q P) f)

theorem gathered_eq (c p0 p1 p2 : Fin 4) (hd : c ≠ p0 ∧ c ≠ p1 ∧ c ≠ p2 ∧ p0 ≠ p1 ∧ p0 ≠ p2 ∧ p1 ≠ p2)
    (stay : BitVec 1) (q : BitVec 32) (hs : ∀ e : Fin 16, q = BitVec.ofNat 32 e.val → stay = BitVec.ofBool (decide (c = home e)))
    (D : Fin 16 → Fin 1024 → EReal) (P : Fin 16 → EReal) (s : EReal) (f : Fin 1024) :
    gathered c p0 p1 p2 q D P s f = expected stay q D P s f := by
  by_cases h : ∃ e : Fin 16, q = BitVec.ofNat 32 e.val
  · obtain ⟨e, rfl⟩ := h
    obtain rfl := hs e rfl
    obtain ⟨h1, h2, h3, h4, h5, h6⟩ := hd
    simp only [gathered, expected, local4_at, masked_at, routed_at]
    have hc : home e = c ∨ home e = p0 ∨ home e = p1 ∨ home e = p2 := by
      generalize home e = o
      clear hs
      revert c p0 p1 p2 o
      decide
    rcases hc with hc | hc | hc | hc
    · simp [hc, h1, h2, h3, sent_zero, ValueIdx.select_one, mul_comm, add_comm]
    · simp [hc, h1, Ne.symm h1, h4, h5, sent_zero, ValueIdx.select_zero]
    · simp [hc, h2, Ne.symm h2, Ne.symm h4, h6, sent_zero, ValueIdx.select_zero]
    · simp [hc, h3, Ne.symm h3, Ne.symm h5, Ne.symm h6, sent_zero, ValueIdx.select_zero]
  · have h' : ∀ e : Fin 16, q ≠ BitVec.ofNat 32 e.val := fun e he => h ⟨e, he⟩
    simp [gathered, expected, local4_none _ _ h', masked_none _ _ h', routed_none _ h', sent_zero, Scalar.select]

end Cert.Exchange

end
-- ==== Proof.Read.lean ====
/- The kernel's arithmetic read at an index over the extended reals. -/
module

public import proofs.«01_k».proof.Proof.Schedule
public import proofs.«01_k».proof.Proof.Rows
public import Idealize.ShloMosaic.Lib.Pointwise

@[expose] public section

set_option maxRecDepth 16384

noncomputable section

namespace Cert.Exchange

open Idealize.ShloMosaic
open Idealize.ShloMosaic.TcCoe
open Cert.KernelIdeal Cert.KernelIdeal.Gen

/-- The word a device's first expert is numbered by. -/
theorem base_eq : ∀ c : Fin 4, base c = BitVec.ofNat 32 (4 * c.val) := by decide

theorem base_add : ∀ c j : Fin 4, Scalar.addi (BitVec.ofNat 32 (4 * c.val)) (BitVec.ofNat 32 j.val) = BitVec.ofNat 32 (nth c j).val := by decide

theorem base_end : ∀ c : Fin 4, Scalar.addi (BitVec.ofNat 32 (4 * c.val)) 4#32 = BitVec.ofNat 32 (4 * c.val + 4) := by decide

/-! ## The router -/

/-- The softmax of a row of scores, as either program writes it. -/
def soft (z : Fin 16 → EReal) (e : Fin 16) : EReal :=
  Ideal.div (Ideal.exp (z e - Finset.fold max (Ideal.ofBits .f32 0xFF800000#32) z Finset.univ))
    (∑ e', Ideal.exp (z e' - Finset.fold max (Ideal.ofBits .f32 0xFF800000#32) z Finset.univ))

/-- A token's weight on a device is its softmax at the expert the device chooses. -/
theorem weight_at (c : Fin 4) (x : Vec Ideal S2048x512 .bf16) (w : Vec Ideal S512x16 .bf16) (r : Vec Ideal S2048x1 .i32) (i : Fin 2048) :
    k0_pay1 (F := Ideal) c x w r (ix2 i 0) = masked c (r (ix2 i 0)) (soft fun e => ∑ k : Fin 512, x (ix2 i k) * w (ix2 k e)) := by
  pointwise [k0_pay1]
  have hb := base_eq c
  unfold base at hb
  rw [hb, base_end]
  rfl

/-! ## The experts' product -/

/-- A sum over four blocks of rows laid one below the other. -/
theorem sum_blocks (g : Fin 2048 → EReal) : ∑ k, g k = ∑ j : Fin 4, ∑ d : Fin 512, g ⟨512 * j.val + d.val, by omega⟩ := by
  rw [← Fintype.sum_prod_type' (f := fun (j : Fin 4) (d : Fin 512) => g ⟨512 * j.val + d.val, by omega⟩)]
  refine (Fintype.sum_equiv (finProdFinEquiv (m := 4) (n := 512)) _ _ fun p => ?_).symm
  congr 1
  apply Fin.ext
  show 512 * p.1.val + p.2.val = (finProdFinEquiv p).val
  simp [finProdFinEquiv]
  omega

/-- The product of the masked token with the stacked experts is the product with the one the device chooses. -/
theorem product_at (c : Fin 4) (x : Vec Ideal S512x512 .bf16) (r : Vec Ideal S512x1 .i32) (w : Vec Ideal S4x512x1024 .bf16) (i : Fin 512) (f : Fin 1024)
    (D : Fin 16 → EReal) (hD : ∀ j : Fin 4, D (nth c j) = ∑ d : Fin 512, x (ix2 i d) * w (ix3 j d f)) :
    k0_pay27 (F := Ideal) (base c) (k0_pay25 x) (k0_pay26 (F := Ideal) r) (shapeCast S2048x1024 w casts_ew) (ix2 i f) = local4 c (r (ix2 i 0)) D := by
  pointwise [k0_pay27, k0_pay25, k0_pay26]
  rw [base_eq, sum_blocks, local4]
  refine Finset.sum_congr rfl fun j _ => ?_
  have hj : (if r (ix2 i 0) = BitVec.ofNat 32 (nth c j).val then D (nth c j) else 0)
      = ∑ d : Fin 512, (if r (ix2 i 0) = Scalar.addi (BitVec.ofNat 32 (4 * c.val)) (BitVec.ofNat 32 j.val) then x (ix2 i d) else 0) * w (ix3 j d f) := by
    rw [base_add, hD]
    split <;> simp
  rw [hj]
  refine Finset.sum_congr rfl fun d _ => ?_
  have hw : ∀ (a : Fin 4) (b : Fin 512), a.val = j.val → b.val = d.val → w (ix3 a b f) = w (ix3 j d f) := by
    intro a b ha hb
    rw [Fin.ext ha, Fin.ext hb]
  have hx : ∀ (n : ℕ) (hn : n < 512), n = d.val → x (ix2 i ⟨n, hn⟩) = x (ix2 i d) := by
    rintro n hn rfl
    rfl
  have hk : ∀ n : ℕ, n = j.val → BitVec.ofNat 32 n = BitVec.ofNat 32 j.val := by
    rintro n rfl
    rfl
  rw [hw _ _ (by show (512 * j.val + d.val) / 512 = j.val; omega) (by show (512 * j.val + d.val) % 512 = d.val; omega)]
  congr 1
  simp only [select_eq]
  split
  · rw [hx _ _ (by omega), hk 0 (by omega)]
  split
  · rw [hx _ _ (by omega), hk 1 (by omega)]
  split
  · rw [hx _ _ (by omega), hk 2 (by omega)]
  · rw [hx _ _ (by omega), hk 3 (by omega)]

/-! A row's product on a device, the row's largest magnitude, and the elements as they are rounded. -/

section Row

variable (c : Fin 4) (x : Vec Ideal S512x512 .bf16) (r : Vec Ideal S512x1 .i32) (w : Vec Ideal S4x512x1024 .bf16) (i : Fin 512)
  (D : Fin 16 → Fin 1024 → EReal) (hD : ∀ (j : Fin 4) (f : Fin 1024), D (nth c j) f = ∑ d : Fin 512, x (ix2 i d) * w (ix3 j d f))

include hD

theorem peak_at : k0_pay28 (F := Ideal) (base c) (k0_pay25 x) (k0_pay26 (F := Ideal) r) (shapeCast S2048x1024 w casts_ew) (ix2 i 0)
    = peak fun k => local4 c (r (ix2 i 0)) fun e => D e k := by
  pointwise [k0_pay28]
  simp only [product_at c x r w i _ (fun e => D e _) fun j => hD j _]
  rfl

theorem code_at (f : Fin 1024) : FloatOps.sitofp (F := Ideal) .f32 (codesOf (F := Ideal) (base c) x r (shapeCast S2048x1024 w casts_ew) (ix3 0 i f))
    = rounded (fun k => local4 c (r (ix2 i 0)) fun e => D e k) f := by
  rw [← code_byte]
  congr 1
  pointwise [codesOf, k0_pay30, k0_pay29]
  rw [peak_at c x r w i D hD, product_at c x r w i f (fun e => D e f) fun j => hD j f]
  rfl

theorem scale_at (p : Vec Ideal S512x1 .f32) : scalesOf (F := Ideal) (base c) x r (shapeCast S2048x1024 w casts_ew) p (ix3 0 i 0)
    = peak (fun k => local4 c (r (ix2 i 0)) fun e => D e k) * p (ix2 i 0) * ((127⁻¹ : ℝ) : EReal) := by
  pointwise [scalesOf, k0_pay31]
  rw [peak_at c x r w i D hD]
  rfl

theorem own_at (p : Vec Ideal S512x1 .f32) (f : Fin 1024) :
    k0_pay32 (F := Ideal) (base c) x r (shapeCast S2048x1024 w casts_ew) p (ix2 i f) = local4 c (r (ix2 i 0)) (fun e => D e f) * p (ix2 i 0) := by
  rw [← product_at c x r w i f (fun e => D e f) fun j => hD j f]
  pointwise [k0_pay32, k0_pay27, k0_pay25, k0_pay26]

end Row

/-- The shared product added, and the three blocks received. -/
theorem shared_at (a : FVec Ideal S512x1024 .f32) (x : Vec Ideal S512x512 .bf16) (s : Vec Ideal S512x1024 .bf16) (i : Fin 512) (f : Fin 1024) :
    k0_pay33 (F := Ideal) a x s (ix2 i f) = a (ix2 i f) + ∑ k : Fin 512, x (ix2 i k) * s (ix2 k f) := by
  pointwise [k0_pay33]

theorem total_at (a : FVec Ideal S512x1024 .f32) (q0 q1 q2 : Vec Ideal S1x512x1024 .i8) (s0 s1 s2 : Vec Ideal S1x512x1 .f32) (i : Fin 512) (f : Fin 1024) :
    k0_pay37 (F := Ideal) (k0_pay36 (F := Ideal) a (k0_pay34 q0) (k0_pay35 s0) q1 s1) q2 s2 (ix2 i f)
      = a (ix2 i f) + FloatOps.sitofp (F := Ideal) .f32 (q0 (ix3 0 i f)) * s0 (ix3 0 i 0) + FloatOps.sitofp (F := Ideal) .f32 (q1 (ix3 0 i f)) * s1 (ix3 0 i 0)
        + FloatOps.sitofp (F := Ideal) .f32 (q2 (ix3 0 i f)) * s2 (ix3 0 i 0) := by
  pointwise [k0_pay37, k0_pay36, k0_pay34, k0_pay35]

end Cert.Exchange

end
-- ==== Proof.Value.lean ====
/- What each device's windows and rows hold, index by index, and the block of the result it computes. -/
module

public import proofs.«01_k».proof.Proof.Read

@[expose] public section

set_option maxRecDepth 16384

noncomputable section

namespace Cert.Exchange

open Idealize.ShloMosaic
open Idealize.ShloMosaic.TcCoe
open Cert.KernelIdeal Cert.KernelIdeal.Gen

section Windows

variable {F : FTy → Type} [FloatOps F] [Named F]
variable (m : (ℓ : Loc nD τ sig) → Buf (Elt F) ℓ) (ρ : Dev nD → PrngReg) (c : Dev nD)

/-! Each argument's one block is the whole argument. -/

theorem xV_eq : xV m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

theorem rwV_eq : rwV m ρ c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _

theorem riV_eq : riV m ρ c = m ((c : Thread nD τ).loc main_arg2) :=
  Memref.read_access_unit_zero (Elt F) main_arg2
    (show (fun a => (win0_2.index (0 : Fin 1)) a * main_arg2.ty.shape.size a) = fun _ => 0 from funext fun a => by fin_cases a <;> decide)
    (fun a => by fin_cases a <;> decide) _

theorem exV_eq : exV m ρ c = m ((c : Thread nD τ).loc main_arg3) :=
  Memref.read_access_unit_zero (Elt F) main_arg3
    (show (fun a => (win0_3.index (0 : Fin 1)) a * main_arg3.ty.shape.size a) = fun _ => 0 from funext fun a => by fin_cases a <;> decide)
    (fun a => by fin_cases a <;> decide) _

theorem shV_eq : shV m ρ c = m ((c : Thread nD τ).loc main_arg4) :=
  Memref.read_access_unit_zero (Elt F) main_arg4
    (show (fun a => (win0_4.index (0 : Fin 1)) a * main_arg4.ty.shape.size a) = fun _ => 0 from funext fun a => by fin_cases a <;> decide)
    (fun a => by fin_cases a <;> decide) _

/-! A chunk's row `i` is row `512 k + i` of the whole. -/

/-- Where a rectangle of `512` rows lands, all columns taken. -/
theorem rows_at {n p : ℕ} (off : Fin 2 → ℕ) (inb) (k : ℕ) (i : Fin 512) (d : Fin p) (hk : off = ![512 * k, 0]) (hn : 512 * k + i.val < n) :
    (Rect.unit (s := ⟨2, ![n, p]⟩) off (⟨2, ![512, p]⟩ : Shape).size inb).idx (ix2 i d) = ix2 ⟨512 * k + i.val, hn⟩ d := by
  subst hk
  funext a
  apply Fin.ext
  match a with
  | ⟨0, _⟩ => show 512 * k + 1 * i.val = 512 * k + i.val; omega
  | ⟨1, _⟩ => show 0 + 1 * d.val = d.val; omega

theorem xRows_at (j : Fin 3) (i : Fin 512) (d : Fin 512) (t : Fin 2048) (ht : t.val = 512 * ((c.val + j.val + 1) % 4) + i.val) :
    xRows m ρ c j (ix2 i d) = xV m ρ c (ix2 t d) := by
  obtain ⟨t, h⟩ := t
  obtain rfl : t = _ := ht
  exact congrArg (xV m ρ c) (rows_at _ _ _ i d (k0_off1_eq c j) h)

theorem riRows_at (j : Fin 3) (i : Fin 512) (t : Fin 2048) (ht : t.val = 512 * ((c.val + j.val + 1) % 4) + i.val) :
    riRows m ρ c j (ix2 i 0) = riV m ρ c (ix2 t 0) := by
  obtain ⟨t, h⟩ := t
  obtain rfl : t = _ := ht
  exact congrArg (riV m ρ c) (rows_at _ _ _ i 0 (k0_off2_eq c j) h)

theorem coRows_at (j : Fin 3) (i : Fin 512) (t : Fin 2048) (ht : t.val = 512 * ((c.val + j.val + 1) % 4) + i.val) :
    coRows m ρ c j (ix2 i 0) = coV m ρ c (ix2 t 0) := by
  obtain ⟨t, h⟩ := t
  obtain rfl : t = _ := ht
  exact congrArg (coV m ρ c) (rows_at _ _ _ i 0 (k0_off2_eq c j) h)

theorem xOwn_at (i : Fin 512) (d : Fin 512) (t : Fin 2048) (ht : t.val = 512 * c.val + i.val) : xOwn m ρ c (ix2 i d) = xV m ρ c (ix2 t d) := by
  obtain ⟨t, h⟩ := t
  obtain rfl : t = _ := ht
  exact congrArg (xV m ρ c) (rows_at _ _ _ i d (k0_off3_eq c) h)

theorem riOwn_at (i : Fin 512) (t : Fin 2048) (ht : t.val = 512 * c.val + i.val) : riOwn m ρ c (ix2 i 0) = riV m ρ c (ix2 t 0) := by
  obtain ⟨t, h⟩ := t
  obtain rfl : t = _ := ht
  exact congrArg (riV m ρ c) (rows_at _ _ _ i 0 (k0_off4_eq c) h)

theorem coOwn_at (i : Fin 512) (t : Fin 2048) (ht : t.val = 512 * c.val + i.val) : coOwn m ρ c (ix2 i 0) = coV m ρ c (ix2 t 0) := by
  obtain ⟨t, h⟩ := t
  obtain rfl : t = _ := ht
  exact congrArg (coV m ρ c) (rows_at _ _ _ i 0 (k0_off4_eq c) h)

end Windows

/-- A block of the experts' weights along the experts. -/
theorem experts_at (c j : Fin 4) (W : Vec Ideal ⟨3, ![16, 512, 1024]⟩ .bf16) (d : Fin 512) (f : Fin 1024) :
    (Layout.block ⟨3, ![4, 512, 1024]⟩ ⟨3, ![16, 512, 1024]⟩ 0 4 c W (by decide)) (ix3 j d f) = W (ix3 (nth c j) d f) := by
  rw [Layout.block_apply]
  congr 1
  funext a
  apply Fin.ext
  match a with
  | ⟨0, _⟩ => show c.val * 4 + j.val = 4 * c.val + j.val; omega
  | ⟨1, _⟩ => rfl
  | ⟨2, _⟩ => rfl

/-- The products of token `t` with every expert. -/
def products (X : Vec Ideal S2048x512 .bf16) (W : Vec Ideal ⟨3, ![16, 512, 1024]⟩ .bf16) (t : Fin 2048) (e : Fin 16) (f : Fin 1024) : EReal :=
  ∑ d : Fin 512, X (ix2 t d) * W (ix3 e d f)

section Out

variable (m : (ℓ : Loc nD τ sig) → Buf (Elt Ideal) ℓ) (ρ : Dev nD → PrngReg) (X : Vec Ideal S2048x512 .bf16) (R : Vec Ideal S512x16 .bf16) (I : Vec Ideal S2048x1 .i32)
  (W : Vec Ideal ⟨3, ![16, 512, 1024]⟩ .bf16) (S : Vec Ideal S512x1024 .bf16)
  (hX : ∀ c : Fin 4, xV m ρ c = X) (hR : ∀ c : Fin 4, rwV m ρ c = R) (hI : ∀ c : Fin 4, riV m ρ c = I)
  (hW : ∀ (c j : Fin 4) (d : Fin 512) (f : Fin 1024), exV m ρ c (ix3 j d f) = W (ix3 (nth c j) d f)) (hS : ∀ c : Fin 4, shV m ρ c = S)

include hX hR hI in
/-- A token's weight on a device, from the arguments. -/
theorem coV_at (c : Fin 4) (t : Fin 2048) : coV m ρ c (ix2 t 0) = masked c (I (ix2 t 0)) (soft fun e => ∑ k : Fin 512, X (ix2 t k) * R (ix2 k e)) := by
  unfold coV
  rw [weight_at, hX, hR, hI]

include hX hI hW in
/-- What a device sends for a token, put back together: the sender's product rounded, times the sender's scale. -/
theorem sent_at (hR : ∀ c : Fin 4, rwV m ρ c = R) (p : Fin 4) (j : Fin 3) (i : Fin 512) (t : Fin 2048) (ht : t.val = 512 * ((p.val + j.val + 1) % 4) + i.val) (f : Fin 1024) :
    FloatOps.sitofp (F := Ideal) .f32 (codesV m ρ p j (ix3 0 i f)) * scalesV m ρ p j (ix3 0 i 0)
      = sent (fun k => local4 p (I (ix2 t 0)) fun e => products X W t e k)
          (masked p (I (ix2 t 0)) (soft fun e => ∑ k : Fin 512, X (ix2 t k) * R (ix2 k e))) f := by
  have hD : ∀ (a : Fin 4) (k : Fin 1024), products X W t (nth p a) k
      = ∑ d : Fin 512, xRows m ρ p j (ix2 i d) * exV m ρ p (ix3 a d k) := by
    intro a k
    refine Finset.sum_congr rfl fun d _ => ?_
    rw [xRows_at m ρ p j i d t ht, hX, hW]
  unfold codesV scalesV ewV
  rw [code_at p _ _ _ i (products X W t) hD f, scale_at p _ _ _ i (products X W t) hD, riRows_at m ρ p j i t ht, hI, coRows_at m ρ p j i t ht, coV_at m ρ X R I hX hR hI]
  rfl

include hX hR hI hW hS in
/-- A device's block of the result at a token and a feature. -/
theorem out_at (c : Fin 4) (i : Fin 512) (t : Fin 2048) (ht : t.val = 512 * c.val + i.val) (f : Fin 1024) :
    outV m ρ c (ix2 i f) = gathered c (src 0 c) (src 1 c) (src 2 c) (I (ix2 t 0))
      (products X W t) (soft fun e => ∑ k : Fin 512, X (ix2 t k) * R (ix2 k e))
      (∑ k : Fin 512, X (ix2 t k) * S (ix2 k f)) f := by
  have hc : ∀ (c : Fin 4) (j : Fin 3), ((src j c).val + j.val + 1) % 4 = c.val := by decide
  have hD : ∀ (a : Fin 4) (k : Fin 1024), products X W t (nth c a) k
      = ∑ d : Fin 512, xOwn m ρ c (ix2 i d) * exV m ρ c (ix3 a d k) := by
    intro a k
    refine Finset.sum_congr rfl fun d _ => ?_
    rw [xOwn_at m ρ c i d t ht, hX, hW]
  have hx : ∀ d : Fin 512, xOwn m ρ c (ix2 i d) = X (ix2 t d) := fun d => by rw [xOwn_at m ρ c i d t ht, hX]
  unfold outV ewV
  rw [total_at, shared_at, own_at c _ _ _ i (products X W t) hD, riOwn_at m ρ c i t ht, coOwn_at m ρ c i t ht, coV_at m ρ X R I hX hR hI, hI, hS]
  simp only [hx]
  rw [sent_at m ρ X R I W hX hI hW hR (src 0 c) 0 i t (by rw [hc]; exact ht), sent_at m ρ X R I W hX hI hW hR (src 1 c) 1 i t (by rw [hc]; exact ht),
    sent_at m ρ X R I W hX hI hW hR (src 2 c) 2 i t (by rw [hc]; exact ht)]
  rfl

end Out

end Cert.Exchange

end
-- ==== Proof.RefRead.lean ====
/- The reference's result read at an index over the extended reals. -/
module

public import proofs.«01_k».proof.Proof.Read
public import proofs.«01_k».proof.Proof.Gen.ReferenceIdeal
public import proofs.«01_k».proof.Proof.Gen.ReferenceIdeal.Run
public import Idealize.ShloMosaic.Lib.Tactic.CleanTypes

@[expose] public section

set_option maxRecDepth 16384

noncomputable section

namespace Cert.Exchange

open Idealize.ShloMosaic
open Idealize.ShloMosaic.TcCoe
open Cert.ReferenceIdeal Cert.ReferenceIdeal.Gen

/-- The filler of the reference's selections is zero. -/
theorem filler_eq : (id (constant (F := Ideal) S_ .f32 0#32) ix0 : EReal) = 0 := Ideal.ofBits_zero_f32

/-- The reference's result at token `i` and feature `f`, from its five arguments: the shared expert's product, and the product
    of the token's one expert weighed and rounded, or not rounded where the expert is one of the token's own device's. -/
theorem ref_at (m : (ℓ : Loc nD τ sig) → Buf (Elt Ideal) ℓ) (X : Vec Ideal S2048x512 .bf16) (R : Vec Ideal S512x16 .bf16) (I : Vec Ideal S2048x1 .i32)
    (W : Vec Ideal S16x512x1024 .bf16) (S : Vec Ideal S512x1024 .bf16)
    (hX : m (((0 : Dev nD).tc : Thread nD τ).loc main_arg0) = X) (hR : m (((0 : Dev nD).tc : Thread nD τ).loc main_arg1) = R)
    (hI : m (((0 : Dev nD).tc : Thread nD τ).loc main_arg2) = I) (hW : m (((0 : Dev nD).tc : Thread nD τ).loc main_arg3) = W)
    (hS : m (((0 : Dev nD).tc : Thread nD τ).loc main_arg4) = S) (i : Fin 2048) (f : Fin 1024) :
    Cert.ReferenceIdeal.Value.res_main_v53 (F := Ideal) m 0 (ix2 i f)
      = expected (IntOp.cmpi .eq (IntOp.divsi .host (BitVec.ofNat 32 i.val) 512#32) (IntOp.divsi .host (I (ix2 i 0)) 4#32)) (I (ix2 i 0))
          (fun e f => ∑ d : Fin 512, X (ix2 i d) * W (ix3 e d f)) (soft fun e => ∑ k : Fin 512, X (ix2 i k) * R (ix2 k e))
          (∑ k : Fin 512, X (ix2 i k) * S (ix2 k f)) f := by
  rw [expected, ← sent_eq, ← code_word]
  unfold Cert.ReferenceIdeal.Value.res_main_v53
  clean_types
  rw [hX, hS, hI, hR, hW]
  pointwise
  simp only [filler_eq]
  rfl

end Cert.Exchange

end
-- ==== Proof.Algebra.lean ====
/- The kernel's result and the reference's agree over the extended reals. -/
module

public import proofs.«01_k».proof.Proof.Frames
public import proofs.«01_k».proof.Proof.Value
public import proofs.«01_k».proof.Proof.RefRead

@[expose] public section

set_option maxRecDepth 16384

noncomputable section

namespace Cert.Exchange

open Idealize.ShloMosaic
open Idealize.ShloMosaic.TcCoe
open Idealize.SL.Sem
open Cert.KernelIdeal Cert.KernelIdeal.Gen

/-- After the run the result's array holds the block the device computed. -/
theorem finalA_out {F : FTy → Type} [FloatOps F] [Named F] (m : (ℓ : Loc nD τ sig) → Buf (Elt F) ℓ) (ρ : Dev nD → PrngReg) (c : Dev nD) :
    finalA m ρ c (5 : Fin 6) = outV m ρ c := by
  have hread : (win0_5.blk (0 : Fin 1)).view.read (Elt F) (finalA m ρ c (5 : Fin 6)) = outV m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [← hread]
  exact (Memref.read_access_unit_zero (Elt F) main_v1
    (show (fun a => (win0_5.index (0 : Fin 1)) a * main_v1.ty.shape.size a) = fun _ => 0 from funext fun a => by fin_cases a <;> decide)
    (fun a => by fin_cases a <;> decide) _).symm

/-- The four devices a block's terms come from are the device itself and three others. -/
theorem sources : ∀ c : Fin 4, c ≠ src 0 c ∧ c ≠ src 1 c ∧ c ≠ src 2 c ∧ src 0 c ≠ src 1 c ∧ src 0 c ≠ src 2 c ∧ src 1 c ≠ src 2 c := by decide

/-- A block of the result along the tokens. -/
theorem result_at (c : Fin 4) (v : Vec Ideal ⟨2, ![2048, 1024]⟩ .f32) (i : Fin 512) (f : Fin 1024) (h : 512 * c.val + i.val < 2048) :
    (Layout.block ⟨2, ![512, 1024]⟩ ⟨2, ![2048, 1024]⟩ 0 4 c v (by decide)) (ix2 i f) = v (ix2 ⟨512 * c.val + i.val, h⟩ f) := by
  rw [Layout.block_apply]
  congr 1
  funext a
  apply Fin.ext
  match a with
  | ⟨0, _⟩ => show c.val * 512 + i.val = 512 * c.val + i.val; omega
  | ⟨1, _⟩ => rfl

/-- A token of device `c`'s chunk stays on its device exactly where its expert is one of `c`'s. -/
theorem stays (c : Fin 4) (i : Fin 512) (h : 512 * c.val + i.val < 2048) {q : BitVec 32} (e : Fin 16) (he : q = BitVec.ofNat 32 e.val) :
    IntOp.cmpi .eq (IntOp.divsi .host (BitVec.ofNat 32 (512 * c.val + i.val)) 512#32) (IntOp.divsi .host q 4#32) = BitVec.ofBool (decide (c = home e)) := by
  rw [he, stay_at _ h]
  congr 1
  refine decide_eq_decide.mpr ?_
  rw [Fin.ext_iff, show (512 * c.val + i.val) / 512 = c.val by omega]

/-- Where the arguments agree, a device's block of the result is its block of the reference's result. -/
theorem out_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (h : ∀ c : Dev nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = m' (((0 : Dev Cert.ReferenceIdeal.nD).tc : Thread Cert.ReferenceIdeal.nD Cert.ReferenceIdeal.τ).loc Cert.ReferenceIdeal.main_arg1)
      ∧ m ((c.tc : Thread nD τ).loc main_arg2) = m' (((0 : Dev Cert.ReferenceIdeal.nD).tc : Thread Cert.ReferenceIdeal.nD Cert.ReferenceIdeal.τ).loc Cert.ReferenceIdeal.main_arg2)
      ∧ m ((c.tc : Thread nD τ).loc main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread nD τ).loc main_arg4) = m' (((0 : Dev Cert.ReferenceIdeal.nD).tc : Thread Cert.ReferenceIdeal.nD Cert.ReferenceIdeal.τ).loc Cert.ReferenceIdeal.main_arg4))
    (c : Dev nD) :
    outV m ρ c = Layout.block ⟨2, ![512, 1024]⟩ ⟨2, ![2048, 1024]⟩ 0 4 c (Cert.ReferenceIdeal.Value.res_main_v53 (F := Ideal) m' 0) := by
  have hout := out_at m ρ _ _ _ _ _ (fun c => (xV_eq m ρ c).trans (h c).1) (fun c => (rwV_eq m ρ c).trans (h c).2.1) (fun c => (riV_eq m ρ c).trans (h c).2.2.1)
    (fun c j d f => (congrFun ((exV_eq m ρ c).trans (h c).2.2.2.1) (ix3 j d f)).trans (experts_at c j _ d f)) (fun c => (shV_eq m ρ c).trans (h c).2.2.2.2)
  funext y
  obtain ⟨i, f, rfl⟩ : ∃ (i : Fin 512) (f : Fin 1024), y = ix2 i f := ⟨y 0, y 1, by funext a; match a with | ⟨0, _⟩ => rfl | ⟨1, _⟩ => rfl⟩
  have hlt : 512 * c.val + i.val < 2048 := by
    have h4 : c.val < 4 := c.isLt
    omega
  rw [hout c i ⟨512 * c.val + i.val, hlt⟩ rfl f, result_at c _ i f hlt, ref_at m' _ _ _ _ _ rfl rfl rfl rfl rfl]
  exact gathered_eq c _ _ _ (sources c) _ _ (stays c i hlt) _ _ _ f

/-- Each device's result is its block of the reference's, and the arguments are unchanged in both programs. -/
theorem agrees : Cert.algebraic_KernelIdeal_ReferenceIdeal (hKernelIdeal := Cert.KernelIdeal.Gen.facts) (hReferenceIdeal := Cert.ReferenceIdeal.Gen.facts) := by
  intro m ρ m' ρ' _ h
  refine ⟨Cert.ReferenceIdeal.Value.res_main_v53 (F := Ideal) m' 0, ?_, ?_⟩
  · refine (θ_run defs _ _).mono (fun r hr c => ⟨?_, kept_of_ends m ρ hr.1 c⟩) (run_main (F := Ideal) m ρ)
    exact (hr.1 c (5 : Fin 6)).trans ((finalA_out m ρ c).trans (out_eq m ρ m' h c))
  · exact (θ_run Cert.ReferenceIdeal.defs _ _).mono (fun _ hr => hr 0) (Cert.ReferenceIdeal.Value.run (F := Ideal) m' ρ')

end Cert.Exchange

end
-- ==== Proof.lean ====
module

public import proofs.«01_k».proof.Defs
public import proofs.«01_k».proof.Proof.Frames
public import proofs.«01_k».proof.Proof.Algebra

@[expose] public section

noncomputable section

namespace Cert.Proof

open Idealize.ShloMosaic Idealize.SL.Sem Cert.Exchange

/-- The named constant of the three scale rows is one over 127. -/
theorem named : Cert.preserves_Kernel_KernelIdeal :=
  IdealRules.named_const.statement Cert.KernelIdeal.κ "over127" .f32 0x3C010204#32 ((127⁻¹ : ℝ) : EReal) rfl

/-- The five claims together, with the side conditions of the three programs. -/
theorem claim : Cert.Claim := ⟨Cert.Kernel.Gen.facts, Cert.KernelIdeal.Gen.facts, Cert.ReferenceIdeal.Gen.facts,
  quiet_bits, quiet_ideal, quiet_reference, named, agrees⟩

end Cert.Proof

end
